-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![32, 128, 256]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![16, 256]⟩ ⟨2, ![256, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v32) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x32 : Shape := ⟨2, ![128, 32]⟩
abbrev S256x1 : Shape := ⟨2, ![256, 1]⟩
abbrev S2x128x256 : Shape := ⟨3, ![2, 128, 256]⟩
abbrev S16x256 : Shape := ⟨2, ![16, 256]⟩
abbrev S16x16x256 : Shape := ⟨3, ![16, 16, 256]⟩
abbrev S15x16x256 : Shape := ⟨3, ![15, 16, 256]⟩
abbrev S15 : Shape := ⟨1, ![15]⟩
abbrev S_ : Shape := ⟨0, ![]⟩
abbrev S256x32 : Shape := ⟨2, ![256, 32]⟩
abbrev S256x256 : Shape := ⟨2, ![256, 256]⟩
abbrev S256 : Shape := ⟨1, ![256]⟩
abbrev S1x128x256 : Shape := ⟨3, ![1, 128, 256]⟩
abbrev S128x256 : Shape := ⟨2, ![128, 256]⟩
abbrev S1 : Shape := ⟨1, ![1]⟩
abbrev S1x16x256 : Shape := ⟨3, ![1, 16, 256]⟩

abbrev nBuf : Space → Nat
  | .hbm => 5
  | .vmem => 6
  | .smem => 0
  | _ => 0

abbrev bufTy : (tb : Table) → Fin (tcTables nBuf tb) → BufTy
  | .hbm, ⟨0, _⟩ => ⟨S256x128, .f32⟩
  | .hbm, ⟨1, _⟩ => ⟨S128x32, .f32⟩
  | .hbm, ⟨2, _⟩ => ⟨S256x1, .i32⟩
  | .hbm, ⟨3, _⟩ => ⟨S2x128x256, .f32⟩
  | .hbm, ⟨4, _⟩ => ⟨S16x256, .f32⟩
  | .local _ .vmem, ⟨0, _⟩ => ⟨S256x128, .f32⟩
  | .local _ .vmem, ⟨1, _⟩ => ⟨S256x1, .i32⟩
  | .local _ .vmem, ⟨2, _⟩ => ⟨S2x128x256, .f32⟩
  | .local _ .vmem, ⟨3, _⟩ => ⟨S16x256, .f32⟩
  | .local _ .vmem, ⟨4, _⟩ => ⟨S16x16x256, .bf16⟩
  | .local _ .vmem, ⟨5, _⟩ => ⟨S15x16x256, .bf16⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c1_i32_157 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v254 : BitVec 32 := Scalar.addi v2 c1_i32_157
  let c16_i32_158 : BitVec 32 := 16#32
  let c0_i32_159 : BitVec 32 := 0#32
  let v255 : BitVec 1 := Scalar.cmpi .eq c16_i32_158 c0_i32_159
  let c1_i32_160 : BitVec 32 := 1#32
  let v256 : BitVec 32 := Scalar.select v255 c1_i32_160 c16_i32_158
  let v257 : BitVec 32 := Scalar.remsi v254 v256
  let c0_i32_162 : BitVec 32 := 0#32
  let v259 : BitVec 1 := Scalar.cmpi .slt v257 c0_i32_162
  let c0_i32_163 : BitVec 32 := 0#32
  let v260 : BitVec 1 := Scalar.cmpi .slt v256 c0_i32_163
  let v261 : BitVec 1 := Scalar.xori v259 v260
  let c0_i32_161 : BitVec 32 := 0#32
  let v258 : BitVec 1 := Scalar.cmpi .ne v257 c0_i32_161
  let v262 : BitVec 1 := Scalar.andi v261 v258
  let v263 : BitVec 32 := Scalar.addi v257 v256
  let v264 : BitVec 32 := Scalar.select v262 v263 v257
  let c0_i32_171 : BitVec 32 := 0#32
  let c0_i32_172 : BitVec 32 := 0#32
  ![v264.toNat, 0, 0]
def k0_dev16 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_157 : BitVec 32 := 1#32
  let v254 : BitVec 32 := Scalar.addi v2 c1_i32_157
  let c16_i32_158 : BitVec 32 := 16#32
  let c0_i32_159 : BitVec 32 := 0#32
  let v255 : BitVec 1 := Scalar.cmpi .eq c16_i32_158 c0_i32_159
  let c1_i32_160 : BitVec 32 := 1#32
  let v256 : BitVec 32 := Scalar.select v255 c1_i32_160 c16_i32_158
  let v257 : BitVec 32 := Scalar.remsi v254 v256
  let c0_i32_162 : BitVec 32 := 0#32
  let v259 : BitVec 1 := Scalar.cmpi .slt v257 c0_i32_162
  let c0_i32_163 : BitVec 32 := 0#32
  let v260 : BitVec 1 := Scalar.cmpi .slt v256 c0_i32_163
  let v261 : BitVec 1 := Scalar.xori v259 v260
  let c0_i32_161 : BitVec 32 := 0#32
  let v258 : BitVec 1 := Scalar.cmpi .ne v257 c0_i32_161
  let v262 : BitVec 1 := Scalar.andi v261 v258
  let v263 : BitVec 32 := Scalar.addi v257 v256
  let v264 : BitVec 32 := Scalar.select v262 v263 v257
  let c1_i32_167 : BitVec 32 := 1#32
  let v265 : BitVec 32 := Scalar.muli v264 c1_i32_167
  let v266 : BitVec 32 := Scalar.addi c0_i32_168 v265
  v266.toNat
def k0_dev17 (d0 : Dev nD) : Nat :=
  let c0_i32_184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_173 : BitVec 32 := 2#32
  let v275 : BitVec 32 := Scalar.addi v2 c2_i32_173
  let c16_i32_174 : BitVec 32 := 16#32
  let c0_i32_175 : BitVec 32 := 0#32
  let v276 : BitVec 1 := Scalar.cmpi .eq c16_i32_174 c0_i32_175
  let c1_i32_176 : BitVec 32 := 1#32
  let v277 : BitVec 32 := Scalar.select v276 c1_i32_176 c16_i32_174
  let v278 : BitVec 32 := Scalar.remsi v275 v277
  let c0_i32_178 : BitVec 32 := 0#32
  let v280 : BitVec 1 := Scalar.cmpi .slt v278 c0_i32_178
  let c0_i32_179 : BitVec 32 := 0#32
  let v281 : BitVec 1 := Scalar.cmpi .slt v277 c0_i32_179
  let v282 : BitVec 1 := Scalar.xori v280 v281
  let c0_i32_177 : BitVec 32 := 0#32
  let v279 : BitVec 1 := Scalar.cmpi .ne v278 c0_i32_177
  let v283 : BitVec 1 := Scalar.andi v282 v279
  let v284 : BitVec 32 := Scalar.addi v278 v277
  let v285 : BitVec 32 := Scalar.select v283 v284 v278
  let c1_i32_183 : BitVec 32 := 1#32
  let v286 : BitVec 32 := Scalar.muli v285 c1_i32_183
  let v287 : BitVec 32 := Scalar.addi c0_i32_184 v286
  v287.toNat
def k0_dev18 (d0 : Dev nD) : Nat :=
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_189 : BitVec 32 := 3#32
  let v296 : BitVec 32 := Scalar.addi v2 c3_i32_189
  let c16_i32_190 : BitVec 32 := 16#32
  let c0_i32_191 : BitVec 32 := 0#32
  let v297 : BitVec 1 := Scalar.cmpi .eq c16_i32_190 c0_i32_191
  let c1_i32_192 : BitVec 32 := 1#32
  let v298 : BitVec 32 := Scalar.select v297 c1_i32_192 c16_i32_190
  let v299 : BitVec 32 := Scalar.remsi v296 v298
  let c0_i32_194 : BitVec 32 := 0#32
  let v301 : BitVec 1 := Scalar.cmpi .slt v299 c0_i32_194
  let c0_i32_195 : BitVec 32 := 0#32
  let v302 : BitVec 1 := Scalar.cmpi .slt v298 c0_i32_195
  let v303 : BitVec 1 := Scalar.xori v301 v302
  let c0_i32_193 : BitVec 32 := 0#32
  let v300 : BitVec 1 := Scalar.cmpi .ne v299 c0_i32_193
  let v304 : BitVec 1 := Scalar.andi v303 v300
  let v305 : BitVec 32 := Scalar.addi v299 v298
  let v306 : BitVec 32 := Scalar.select v304 v305 v299
  let c1_i32_199 : BitVec 32 := 1#32
  let v307 : BitVec 32 := Scalar.muli v306 c1_i32_199
  let v308 : BitVec 32 := Scalar.addi c0_i32_200 v307
  v308.toNat
def k0_dev19 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_205 : BitVec 32 := 4#32
  let v317 : BitVec 32 := Scalar.addi v2 c4_i32_205
  let c16_i32_206 : BitVec 32 := 16#32
  let c0_i32_207 : BitVec 32 := 0#32
  let v318 : BitVec 1 := Scalar.cmpi .eq c16_i32_206 c0_i32_207
  let c1_i32_208 : BitVec 32 := 1#32
  let v319 : BitVec 32 := Scalar.select v318 c1_i32_208 c16_i32_206
  let v320 : BitVec 32 := Scalar.remsi v317 v319
  let c0_i32_210 : BitVec 32 := 0#32
  let v322 : BitVec 1 := Scalar.cmpi .slt v320 c0_i32_210
  let c0_i32_211 : BitVec 32 := 0#32
  let v323 : BitVec 1 := Scalar.cmpi .slt v319 c0_i32_211
  let v324 : BitVec 1 := Scalar.xori v322 v323
  let c0_i32_209 : BitVec 32 := 0#32
  let v321 : BitVec 1 := Scalar.cmpi .ne v320 c0_i32_209
  let v325 : BitVec 1 := Scalar.andi v324 v321
  let v326 : BitVec 32 := Scalar.addi v320 v319
  let v327 : BitVec 32 := Scalar.select v325 v326 v320
  let c1_i32_215 : BitVec 32 := 1#32
  let v328 : BitVec 32 := Scalar.muli v327 c1_i32_215
  let v329 : BitVec 32 := Scalar.addi c0_i32_216 v328
  v329.toNat
def k0_dev20 (d0 : Dev nD) : Nat :=
  let c0_i32_232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_221 : BitVec 32 := 5#32
  let v338 : BitVec 32 := Scalar.addi v2 c5_i32_221
  let c16_i32_222 : BitVec 32 := 16#32
  let c0_i32_223 : BitVec 32 := 0#32
  let v339 : BitVec 1 := Scalar.cmpi .eq c16_i32_222 c0_i32_223
  let c1_i32_224 : BitVec 32 := 1#32
  let v340 : BitVec 32 := Scalar.select v339 c1_i32_224 c16_i32_222
  let v341 : BitVec 32 := Scalar.remsi v338 v340
  let c0_i32_226 : BitVec 32 := 0#32
  let v343 : BitVec 1 := Scalar.cmpi .slt v341 c0_i32_226
  let c0_i32_227 : BitVec 32 := 0#32
  let v344 : BitVec 1 := Scalar.cmpi .slt v340 c0_i32_227
  let v345 : BitVec 1 := Scalar.xori v343 v344
  let c0_i32_225 : BitVec 32 := 0#32
  let v342 : BitVec 1 := Scalar.cmpi .ne v341 c0_i32_225
  let v346 : BitVec 1 := Scalar.andi v345 v342
  let v347 : BitVec 32 := Scalar.addi v341 v340
  let v348 : BitVec 32 := Scalar.select v346 v347 v341
  let c1_i32_231 : BitVec 32 := 1#32
  let v349 : BitVec 32 := Scalar.muli v348 c1_i32_231
  let v350 : BitVec 32 := Scalar.addi c0_i32_232 v349
  v350.toNat
def k0_dev21 (d0 : Dev nD) : Nat :=
  let c0_i32_248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_237 : BitVec 32 := 6#32
  let v359 : BitVec 32 := Scalar.addi v2 c6_i32_237
  let c16_i32_238 : BitVec 32 := 16#32
  let c0_i32_239 : BitVec 32 := 0#32
  let v360 : BitVec 1 := Scalar.cmpi .eq c16_i32_238 c0_i32_239
  let c1_i32_240 : BitVec 32 := 1#32
  let v361 : BitVec 32 := Scalar.select v360 c1_i32_240 c16_i32_238
  let v362 : BitVec 32 := Scalar.remsi v359 v361
  let c0_i32_242 : BitVec 32 := 0#32
  let v364 : BitVec 1 := Scalar.cmpi .slt v362 c0_i32_242
  let c0_i32_243 : BitVec 32 := 0#32
  let v365 : BitVec 1 := Scalar.cmpi .slt v361 c0_i32_243
  let v366 : BitVec 1 := Scalar.xori v364 v365
  let c0_i32_241 : BitVec 32 := 0#32
  let v363 : BitVec 1 := Scalar.cmpi .ne v362 c0_i32_241
  let v367 : BitVec 1 := Scalar.andi v366 v363
  let v368 : BitVec 32 := Scalar.addi v362 v361
  let v369 : BitVec 32 := Scalar.select v367 v368 v362
  let c1_i32_247 : BitVec 32 := 1#32
  let v370 : BitVec 32 := Scalar.muli v369 c1_i32_247
  let v371 : BitVec 32 := Scalar.addi c0_i32_248 v370
  v371.toNat
def k0_dev22 (d0 : Dev nD) : Nat :=
  let c0_i32_264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_253 : BitVec 32 := 7#32
  let v380 : BitVec 32 := Scalar.addi v2 c7_i32_253
  let c16_i32_254 : BitVec 32 := 16#32
  let c0_i32_255 : BitVec 32 := 0#32
  let v381 : BitVec 1 := Scalar.cmpi .eq c16_i32_254 c0_i32_255
  let c1_i32_256 : BitVec 32 := 1#32
  let v382 : BitVec 32 := Scalar.select v381 c1_i32_256 c16_i32_254
  let v383 : BitVec 32 := Scalar.remsi v380 v382
  let c0_i32_258 : BitVec 32 := 0#32
  let v385 : BitVec 1 := Scalar.cmpi .slt v383 c0_i32_258
  let c0_i32_259 : BitVec 32 := 0#32
  let v386 : BitVec 1 := Scalar.cmpi .slt v382 c0_i32_259
  let v387 : BitVec 1 := Scalar.xori v385 v386
  let c0_i32_257 : BitVec 32 := 0#32
  let v384 : BitVec 1 := Scalar.cmpi .ne v383 c0_i32_257
  let v388 : BitVec 1 := Scalar.andi v387 v384
  let v389 : BitVec 32 := Scalar.addi v383 v382
  let v390 : BitVec 32 := Scalar.select v388 v389 v383
  let c1_i32_263 : BitVec 32 := 1#32
  let v391 : BitVec 32 := Scalar.muli v390 c1_i32_263
  let v392 : BitVec 32 := Scalar.addi c0_i32_264 v391
  v392.toNat
def k0_dev23 (d0 : Dev nD) : Nat :=
  let c0_i32_280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_269 : BitVec 32 := 8#32
  let v401 : BitVec 32 := Scalar.addi v2 c8_i32_269
  let c16_i32_270 : BitVec 32 := 16#32
  let c0_i32_271 : BitVec 32 := 0#32
  let v402 : BitVec 1 := Scalar.cmpi .eq c16_i32_270 c0_i32_271
  let c1_i32_272 : BitVec 32 := 1#32
  let v403 : BitVec 32 := Scalar.select v402 c1_i32_272 c16_i32_270
  let v404 : BitVec 32 := Scalar.remsi v401 v403
  let c0_i32_274 : BitVec 32 := 0#32
  let v406 : BitVec 1 := Scalar.cmpi .slt v404 c0_i32_274
  let c0_i32_275 : BitVec 32 := 0#32
  let v407 : BitVec 1 := Scalar.cmpi .slt v403 c0_i32_275
  let v408 : BitVec 1 := Scalar.xori v406 v407
  let c0_i32_273 : BitVec 32 := 0#32
  let v405 : BitVec 1 := Scalar.cmpi .ne v404 c0_i32_273
  let v409 : BitVec 1 := Scalar.andi v408 v405
  let v410 : BitVec 32 := Scalar.addi v404 v403
  let v411 : BitVec 32 := Scalar.select v409 v410 v404
  let c1_i32_279 : BitVec 32 := 1#32
  let v412 : BitVec 32 := Scalar.muli v411 c1_i32_279
  let v413 : BitVec 32 := Scalar.addi c0_i32_280 v412
  v413.toNat
def k0_dev24 (d0 : Dev nD) : Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_285 : BitVec 32 := 9#32
  let v422 : BitVec 32 := Scalar.addi v2 c9_i32_285
  let c16_i32_286 : BitVec 32 := 16#32
  let c0_i32_287 : BitVec 32 := 0#32
  let v423 : BitVec 1 := Scalar.cmpi .eq c16_i32_286 c0_i32_287
  let c1_i32_288 : BitVec 32 := 1#32
  let v424 : BitVec 32 := Scalar.select v423 c1_i32_288 c16_i32_286
  let v425 : BitVec 32 := Scalar.remsi v422 v424
  let c0_i32_290 : BitVec 32 := 0#32
  let v427 : BitVec 1 := Scalar.cmpi .slt v425 c0_i32_290
  let c0_i32_291 : BitVec 32 := 0#32
  let v428 : BitVec 1 := Scalar.cmpi .slt v424 c0_i32_291
  let v429 : BitVec 1 := Scalar.xori v427 v428
  let c0_i32_289 : BitVec 32 := 0#32
  let v426 : BitVec 1 := Scalar.cmpi .ne v425 c0_i32_289
  let v430 : BitVec 1 := Scalar.andi v429 v426
  let v431 : BitVec 32 := Scalar.addi v425 v424
  let v432 : BitVec 32 := Scalar.select v430 v431 v425
  let c1_i32_295 : BitVec 32 := 1#32
  let v433 : BitVec 32 := Scalar.muli v432 c1_i32_295
  let v434 : BitVec 32 := Scalar.addi c0_i32_296 v433
  v434.toNat
def k0_dev25 (d0 : Dev nD) : Nat :=
  let c0_i32_312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_301 : BitVec 32 := 10#32
  let v443 : BitVec 32 := Scalar.addi v2 c10_i32_301
  let c16_i32_302 : BitVec 32 := 16#32
  let c0_i32_303 : BitVec 32 := 0#32
  let v444 : BitVec 1 := Scalar.cmpi .eq c16_i32_302 c0_i32_303
  let c1_i32_304 : BitVec 32 := 1#32
  let v445 : BitVec 32 := Scalar.select v444 c1_i32_304 c16_i32_302
  let v446 : BitVec 32 := Scalar.remsi v443 v445
  let c0_i32_306 : BitVec 32 := 0#32
  let v448 : BitVec 1 := Scalar.cmpi .slt v446 c0_i32_306
  let c0_i32_307 : BitVec 32 := 0#32
  let v449 : BitVec 1 := Scalar.cmpi .slt v445 c0_i32_307
  let v450 : BitVec 1 := Scalar.xori v448 v449
  let c0_i32_305 : BitVec 32 := 0#32
  let v447 : BitVec 1 := Scalar.cmpi .ne v446 c0_i32_305
  let v451 : BitVec 1 := Scalar.andi v450 v447
  let v452 : BitVec 32 := Scalar.addi v446 v445
  let v453 : BitVec 32 := Scalar.select v451 v452 v446
  let c1_i32_311 : BitVec 32 := 1#32
  let v454 : BitVec 32 := Scalar.muli v453 c1_i32_311
  let v455 : BitVec 32 := Scalar.addi c0_i32_312 v454
  v455.toNat
def k0_dev26 (d0 : Dev nD) : Nat :=
  let c0_i32_328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_317 : BitVec 32 := 11#32
  let v464 : BitVec 32 := Scalar.addi v2 c11_i32_317
  let c16_i32_318 : BitVec 32 := 16#32
  let c0_i32_319 : BitVec 32 := 0#32
  let v465 : BitVec 1 := Scalar.cmpi .eq c16_i32_318 c0_i32_319
  let c1_i32_320 : BitVec 32 := 1#32
  let v466 : BitVec 32 := Scalar.select v465 c1_i32_320 c16_i32_318
  let v467 : BitVec 32 := Scalar.remsi v464 v466
  let c0_i32_322 : BitVec 32 := 0#32
  let v469 : BitVec 1 := Scalar.cmpi .slt v467 c0_i32_322
  let c0_i32_323 : BitVec 32 := 0#32
  let v470 : BitVec 1 := Scalar.cmpi .slt v466 c0_i32_323
  let v471 : BitVec 1 := Scalar.xori v469 v470
  let c0_i32_321 : BitVec 32 := 0#32
  let v468 : BitVec 1 := Scalar.cmpi .ne v467 c0_i32_321
  let v472 : BitVec 1 := Scalar.andi v471 v468
  let v473 : BitVec 32 := Scalar.addi v467 v466
  let v474 : BitVec 32 := Scalar.select v472 v473 v467
  let c1_i32_327 : BitVec 32 := 1#32
  let v475 : BitVec 32 := Scalar.muli v474 c1_i32_327
  let v476 : BitVec 32 := Scalar.addi c0_i32_328 v475
  v476.toNat
def k0_dev27 (d0 : Dev nD) : Nat :=
  let c0_i32_344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_333 : BitVec 32 := 12#32
  let v485 : BitVec 32 := Scalar.addi v2 c12_i32_333
  let c16_i32_334 : BitVec 32 := 16#32
  let c0_i32_335 : BitVec 32 := 0#32
  let v486 : BitVec 1 := Scalar.cmpi .eq c16_i32_334 c0_i32_335
  let c1_i32_336 : BitVec 32 := 1#32
  let v487 : BitVec 32 := Scalar.select v486 c1_i32_336 c16_i32_334
  let v488 : BitVec 32 := Scalar.remsi v485 v487
  let c0_i32_338 : BitVec 32 := 0#32
  let v490 : BitVec 1 := Scalar.cmpi .slt v488 c0_i32_338
  let c0_i32_339 : BitVec 32 := 0#32
  let v491 : BitVec 1 := Scalar.cmpi .slt v487 c0_i32_339
  let v492 : BitVec 1 := Scalar.xori v490 v491
  let c0_i32_337 : BitVec 32 := 0#32
  let v489 : BitVec 1 := Scalar.cmpi .ne v488 c0_i32_337
  let v493 : BitVec 1 := Scalar.andi v492 v489
  let v494 : BitVec 32 := Scalar.addi v488 v487
  let v495 : BitVec 32 := Scalar.select v493 v494 v488
  let c1_i32_343 : BitVec 32 := 1#32
  let v496 : BitVec 32 := Scalar.muli v495 c1_i32_343
  let v497 : BitVec 32 := Scalar.addi c0_i32_344 v496
  v497.toNat
def k0_dev28 (d0 : Dev nD) : Nat :=
  let c0_i32_360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_349 : BitVec 32 := 13#32
  let v506 : BitVec 32 := Scalar.addi v2 c13_i32_349
  let c16_i32_350 : BitVec 32 := 16#32
  let c0_i32_351 : BitVec 32 := 0#32
  let v507 : BitVec 1 := Scalar.cmpi .eq c16_i32_350 c0_i32_351
  let c1_i32_352 : BitVec 32 := 1#32
  let v508 : BitVec 32 := Scalar.select v507 c1_i32_352 c16_i32_350
  let v509 : BitVec 32 := Scalar.remsi v506 v508
  let c0_i32_354 : BitVec 32 := 0#32
  let v511 : BitVec 1 := Scalar.cmpi .slt v509 c0_i32_354
  let c0_i32_355 : BitVec 32 := 0#32
  let v512 : BitVec 1 := Scalar.cmpi .slt v508 c0_i32_355
  let v513 : BitVec 1 := Scalar.xori v511 v512
  let c0_i32_353 : BitVec 32 := 0#32
  let v510 : BitVec 1 := Scalar.cmpi .ne v509 c0_i32_353
  let v514 : BitVec 1 := Scalar.andi v513 v510
  let v515 : BitVec 32 := Scalar.addi v509 v508
  let v516 : BitVec 32 := Scalar.select v514 v515 v509
  let c1_i32_359 : BitVec 32 := 1#32
  let v517 : BitVec 32 := Scalar.muli v516 c1_i32_359
  let v518 : BitVec 32 := Scalar.addi c0_i32_360 v517
  v518.toNat
def k0_dev29 (d0 : Dev nD) : Nat :=
  let c0_i32_376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_365 : BitVec 32 := 14#32
  let v527 : BitVec 32 := Scalar.addi v2 c14_i32_365
  let c16_i32_366 : BitVec 32 := 16#32
  let c0_i32_367 : BitVec 32 := 0#32
  let v528 : BitVec 1 := Scalar.cmpi .eq c16_i32_366 c0_i32_367
  let c1_i32_368 : BitVec 32 := 1#32
  let v529 : BitVec 32 := Scalar.select v528 c1_i32_368 c16_i32_366
  let v530 : BitVec 32 := Scalar.remsi v527 v529
  let c0_i32_370 : BitVec 32 := 0#32
  let v532 : BitVec 1 := Scalar.cmpi .slt v530 c0_i32_370
  let c0_i32_371 : BitVec 32 := 0#32
  let v533 : BitVec 1 := Scalar.cmpi .slt v529 c0_i32_371
  let v534 : BitVec 1 := Scalar.xori v532 v533
  let c0_i32_369 : BitVec 32 := 0#32
  let v531 : BitVec 1 := Scalar.cmpi .ne v530 c0_i32_369
  let v535 : BitVec 1 := Scalar.andi v534 v531
  let v536 : BitVec 32 := Scalar.addi v530 v529
  let v537 : BitVec 32 := Scalar.select v535 v536 v530
  let c1_i32_375 : BitVec 32 := 1#32
  let v538 : BitVec 32 := Scalar.muli v537 c1_i32_375
  let v539 : BitVec 32 := Scalar.addi c0_i32_376 v538
  v539.toNat
def k0_dev30 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_381 : BitVec 32 := 15#32
  let v548 : BitVec 32 := Scalar.addi v2 c15_i32_381
  let c16_i32_382 : BitVec 32 := 16#32
  let c0_i32_383 : BitVec 32 := 0#32
  let v549 : BitVec 1 := Scalar.cmpi .eq c16_i32_382 c0_i32_383
  let c1_i32_384 : BitVec 32 := 1#32
  let v550 : BitVec 32 := Scalar.select v549 c1_i32_384 c16_i32_382
  let v551 : BitVec 32 := Scalar.remsi v548 v550
  let c0_i32_386 : BitVec 32 := 0#32
  let v553 : BitVec 1 := Scalar.cmpi .slt v551 c0_i32_386
  let c0_i32_387 : BitVec 32 := 0#32
  let v554 : BitVec 1 := Scalar.cmpi .slt v550 c0_i32_387
  let v555 : BitVec 1 := Scalar.xori v553 v554
  let c0_i32_385 : BitVec 32 := 0#32
  let v552 : BitVec 1 := Scalar.cmpi .ne v551 c0_i32_385
  let v556 : BitVec 1 := Scalar.andi v555 v552
  let v557 : BitVec 32 := Scalar.addi v551 v550
  let v558 : BitVec 32 := Scalar.select v556 v557 v551
  let c1_i32_391 : BitVec 32 := 1#32
  let v559 : BitVec 32 := Scalar.muli v558 c1_i32_391
  let v560 : BitVec 32 := Scalar.addi c0_i32_392 v559
  v560.toNat
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v689 : Index := Scalar.indexCast v2
  let c0_562 : Index := 0#32
  let c0_563 : Index := 0#32
  ![v689.toNat, 0, 0]
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x128 : Shape := ⟨2, ![256, 128]⟩
abbrev S128x32 : Shape := ⟨2, ![128, 32]⟩
abbrev S256x1 : Shape := ⟨2, ![256, 1]⟩
abbrev S32x128x256 : Shape := ⟨3, ![32, 128, 256]⟩
abbrev S256 : Shape := ⟨1, ![256]⟩
abbrev S1x256 : Shape := ⟨2, ![1, 256]⟩
abbrev S256x256 : Shape := ⟨2, ![256, 256]⟩
abbrev S_ : Shape := ⟨0, ![]⟩
abbrev S256x128x256 : Shape := ⟨3, ![256, 128, 256]⟩

abbrev nBuf : Space → Nat
  | .hbm => 47
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S128x32, .f32⟩
  | .hbm, ⟨2, _⟩ => ⟨S256x1, .i32⟩
  | .hbm, ⟨3, _⟩ => ⟨S32x128x256, .f32⟩
  | .hbm, ⟨4, _⟩ => ⟨S256, .i32⟩
  | .hbm, ⟨5, _⟩ => ⟨S256, .i32⟩
  | .hbm, ⟨6, _⟩ => ⟨S1x256, .i32⟩
  | .hbm, ⟨7, _⟩ => ⟨S256x1, .i32⟩
  | .hbm, ⟨8, _⟩ => ⟨S256x256, .i32⟩
  | .hbm, ⟨9, _⟩ => ⟨S256x256, .i32⟩
  | .hbm, ⟨10, _⟩ => ⟨S256x256, .i1⟩
  | .hbm, ⟨11, _⟩ => ⟨S1x256, .i32⟩
  | .hbm, ⟨12, _⟩ => ⟨S256x1, .i32⟩
  | .hbm, ⟨13, _⟩ => ⟨S256x256, .i32⟩
  | .hbm, ⟨14, _⟩ => ⟨S256x256, .i32⟩
  | .hbm, ⟨15, _⟩ => ⟨S256x256, .i1⟩
  | .hbm, ⟨16, _⟩ => ⟨S256x256, .i1⟩
  | .hbm, ⟨17, _⟩ => ⟨S256x256, .i32⟩
  | .hbm, ⟨18, _⟩ => ⟨S_, .i32⟩
  | .hbm, ⟨19, _⟩ => ⟨S256, .i32⟩
  | .hbm, ⟨20, _⟩ => ⟨S_, .i32⟩
  | .hbm, ⟨21, _⟩ => ⟨S256, .i32⟩
  | .hbm, ⟨22, _⟩ => ⟨S256, .i1⟩
  | .hbm, ⟨23, _⟩ => ⟨S_, .i32⟩
  | .hbm, ⟨24, _⟩ => ⟨S256, .i32⟩
  | .hbm, ⟨25, _⟩ => ⟨S256, .i1⟩
  | .hbm, ⟨26, _⟩ => ⟨S256, .i1⟩
  | .hbm, ⟨27, _⟩ => ⟨S_, .i32⟩
  | .hbm, ⟨28, _⟩ => ⟨S256, .i32⟩
  | .hbm, ⟨29, _⟩ => ⟨S256, .i1⟩
  | .hbm, ⟨30, _⟩ => ⟨S256, .i1⟩
  | .hbm, ⟨31, _⟩ => ⟨S_, .i32⟩
  | .hbm, ⟨32, _⟩ => ⟨S256, .i32⟩
  | .hbm, ⟨33, _⟩ => ⟨S256, .i1⟩
  | .hbm, ⟨34, _⟩ => ⟨S_, .i32⟩
  | .hbm, ⟨35, _⟩ => ⟨S256, .i32⟩
  | .hbm, ⟨36, _⟩ => ⟨S256, .i32⟩
  | .hbm, ⟨37, _⟩ => ⟨S256, .i32⟩
  | .hbm, ⟨38, _⟩ => ⟨S256x1, .i32⟩
  | .hbm, ⟨39, _⟩ => ⟨S256x128x256, .f32⟩
  | .hbm, ⟨40, _⟩ => ⟨S256x256, .f32⟩
  | .hbm, ⟨41, _⟩ => ⟨S256x1, .i1⟩
  | .hbm, ⟨42, _⟩ => ⟨S_, .f32⟩
  | .hbm, ⟨43, _⟩ => ⟨S_, .f32⟩
  | .hbm, ⟨44, _⟩ => ⟨S256x256, .i1⟩
  | .hbm, ⟨45, _⟩ => ⟨S256x256, .f32⟩
  | .hbm, ⟨46, _⟩ => ⟨S256x256, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_3 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Proof.Protocol.lean ====
/-
# The exchange among the sixteen devices, as a protocol

Every device holds its partial result for all 256 tokens, cut in sixteen row blocks, one per device. It tells each of
its fifteen peers (through the barrier semaphore) that it is ready to receive, waits until all fifteen have told it so,
sends each peer that peer's row block, and adds the fifteen blocks it receives to its own.

This module names the parties, the pieces of memory and the semaphores, says what each buffer holds, and states the
protocol as one round of duties per semaphore: who pays a semaphore, how much, and what comes with the payment.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds of the exchange's own semaphores: the duties of a semaphore are named by the numbers below fifteen. -/
abbrev UX : Type := URounds (GSem nD τ sig) (Fin 15)
abbrev UU : Type := UR sig nD τ × UX

local notation "𝕄" => MT nD τ sig Unit (Elt F) ℕ UU ℕ

/-- The launch library's copy of the rounds, and the exchange's. -/
abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ)

/-! ## The parties -/

/-- The device `j + 1` places after `c` around the sixteen: the peer device `c`'s transfer number `j` goes to. -/
def peer (c : Dev nD) (j : Fin 15) : Dev nD := ⟨(c.val + j.val + 1) % 16, Nat.mod_lt _ (by decide)⟩

/-- Going `j + 1` places forward and then `15 - j` more comes back. -/
theorem peer_rev (c : Dev nD) (j : Fin 15) : peer (peer c j) j.rev = c := by revert c j; decide
theorem peer_rev' (c : Dev nD) (j : Fin 15) : peer (peer c j.rev) j = c := by revert c j; decide
/-- No device is its own peer. -/
theorem peer_ne (c : Dev nD) (j : Fin 15) : peer c j ≠ c := by revert c j; decide
/-- Different transfer numbers name different peers. -/
theorem peer_inj (c : Dev nD) {j j' : Fin 15} (h : peer c j = peer c j') : j = j' := by revert c j j'; decide
/-- Every other device is a peer, by one number. -/
theorem peer_surj (c d : Dev nD) (h : d ≠ c) : ∃ j, peer c j = d := by revert c d; decide

/-- Going to the peer of number `j`, as a rearrangement of the devices. -/
def turn (j : Fin 15) : Dev nD ≃ Dev nD := ⟨fun c => peer c j, fun c => peer c j.rev, fun c => peer_rev c j, fun c => peer_rev' c j⟩

/-! ## The pieces of memory -/

theorem acc_inb (p : Dev nD) : ∀ a, (![p.val, 0, 0] : Fin 3 → ℕ) a + S1x16x256.size a ≤ S16x16x256.size a := by revert p; decide
theorem comm_inb (k : Fin 15) : ∀ a, (![k.val, 0, 0] : Fin 3 → ℕ) a + S1x16x256.size a ≤ S15x16x256.size a := by revert k; decide
theorem sem_inb (k : Fin 15) : ∀ a, (![k.val] : Fin 1 → ℕ) a + S1.size a ≤ S15.size a := by revert k; decide

/-- The partial result's row block for device `p`. -/
abbrev accS (p : Dev nD) : Memref sig .tc .vmem S16x256 .bf16 :=
  ((Memref.whole cc0_scratch0 : Memref sig .tc .vmem S16x16x256 .bf16).slice (Rect.unit (s := S16x16x256) ![p.val, 0, 0] S1x16x256.size (acc_inb p)) (fun _ => rfl)).squeeze
    S16x256 squeezes_S1x16x256_S16x256
/-- The landing buffer's slot number `k`. -/
abbrev commS (k : Fin 15) : Memref sig .tc .vmem S16x256 .bf16 :=
  ((Memref.whole cc0_scratch1 : Memref sig .tc .vmem S15x16x256 .bf16).slice (Rect.unit (s := S15x16x256) ![k.val, 0, 0] S1x16x256.size (comm_inb k)) (fun _ => rfl)).squeeze
    S16x256 squeezes_S1x16x256_S16x256

/-! ## The semaphores -/

/-- The barrier semaphore, transfer `j`'s send semaphore, slot `k`'s receive semaphore. -/
abbrev barS : Sem sig := (SemArray.scalar (sig.barrier 0 rfl) : Sems sig S_).sem
abbrev sndS (j : Fin 15) : DmaSem sig := (((cc0_scratch2 : DmaSems sig S15).slice (Rect.unit (s := S15) ![j.val] S1.size (sem_inb j))).squeeze S_ squeezes_S1_S_).sem
abbrev rcvS (k : Fin 15) : DmaSem sig := (((cc0_scratch3 : DmaSems sig S15).slice (Rect.unit (s := S15) ![k.val] S1.size (sem_inb k))).squeeze S_ squeezes_S1_S_).sem

/-- The exchange's semaphores of one device: the barrier, the fifteen send ones, the fifteen receive ones. -/
abbrev Kind : Type := Unit ⊕ (Fin 15 ⊕ Fin 15)
abbrev kBar : Kind := .inl ()
abbrev kSnd (j : Fin 15) : Kind := .inr (.inl j)
abbrev kRcv (k : Fin 15) : Kind := .inr (.inr k)

/-- The kernel's own (scoped) semaphores; -/
def osem : Fin 15 ⊕ Fin 15 → SemLoc sig := Sum.elim (fun j => .dma (sndS j)) fun k => .dma (rcvS k)
/-- all of the exchange's. -/
def csem : Kind → SemLoc sig := Sum.elim (fun _ => .reg barS) osem

/-- Which of the exchange's semaphores a semaphore is: the barrier is the regular one, the send and receive ones lie
    after the four staging ones. -/
def cls : SemLoc sig → Option Kind
  | .reg _ => some kBar
  | .dma q => if h : q.val < 4 then none else if h' : q.val < 19 then some (kSnd ⟨q.val - 4, by omega⟩)
      else if h'' : q.val < 34 then some (kRcv ⟨q.val - 19, by omega⟩) else none

theorem cls_bar : cls (.reg barS) = some kBar := rfl
theorem cls_snd (j : Fin 15) : cls (.dma (sndS j)) = some (kSnd j) := by revert j; decide
theorem cls_rcv (k : Fin 15) : cls (.dma (rcvS k)) = some (kRcv k) := by revert k; decide
theorem cls_csem : ∀ k : Kind, cls (csem k) = some k
  | .inl () => cls_bar
  | .inr (.inl j) => cls_snd j
  | .inr (.inr k) => cls_rcv k
theorem csem_inj : Function.Injective csem := fun a b h => Option.some.inj (by rw [← cls_csem a, ← cls_csem b, h])

/-- A device's semaphore of the exchange, as a cell of the whole mesh. -/
abbrev cell (c : Dev nD) (k : Kind) : GSem nD τ sig := ((c : Thread nD τ), csem k)
abbrev barCell (c : Dev nD) : GSem nD τ sig := ((c : Thread nD τ), .reg barS)
abbrev sndCell (c : Dev nD) (j : Fin 15) : GSem nD τ sig := ((c : Thread nD τ), .dma (sndS j))
abbrev rcvCell (c : Dev nD) (k : Fin 15) : GSem nD τ sig := ((c : Thread nD τ), .dma (rcvS k))

theorem cell_inj : Function.Injective (fun ck : Dev nD × Kind => cell ck.1 ck.2) := by
  rintro ⟨c, k⟩ ⟨c', k'⟩ h
  have h1 : c = c' := congrArg (fun g : GSem nD τ sig => g.1.1) h
  have h2 : k = k' := csem_inj (congrArg Prod.snd h)
  rw [h1, h2]

/-- What one block's transfer adds to the semaphores it completes on. -/
abbrev N : ℕ := (commS 0).view.dmaCredit
theorem N_pos : 0 < N := View.dmaCredit_pos _ (by decide)
theorem acc_credit (p : Dev nD) : (accS p).view.dmaCredit = N := rfl
theorem comm_credit (k : Fin 15) : (commS k).view.dmaCredit = N := rfl

/-! ## What the buffers hold -/

/-- The staged inputs on device `c`: the tokens, the experts chosen, the device's two expert matrices. -/
def xstg (c : Dev nD) : S256x128.Idx → Elt F .f32 := (win0_0.blk (0 : Fin 1)).view.read (Elt F) (m ((c : Thread nD τ).loc main_arg0))
def istg (c : Dev nD) : S256x1.Idx → Elt F .i32 := (win0_1.blk (0 : Fin 1)).view.read (Elt F) (m ((c : Thread nD τ).loc main_arg2))
def wstg (c : Dev nD) : S2x128x256.Idx → Elt F .f32 := (win0_2.blk (0 : Fin 1)).view.read (Elt F) (m ((c : Thread nD τ).loc main_arg3))

/-- The device's number among the sixteen, as the word the kernel computes. -/
def myWord (c : Dev nD) : BitVec 32 := Scalar.remsi (Scalar.divsi (Dev.word c) 1#32) 16#32

/-- The matrices of the device's first and second expert, as loaded. -/
def w0 (c : Dev nD) : S1x128x256.Idx → Elt F .f32 :=
  View.ld (wstg m c) (Rect.unit (s := S2x128x256) ![0, 0, 0] S1x128x256.size inb_S2x128x256_S1x128x256_0_0_0)
def w1 (c : Dev nD) : S1x128x256.Idx → Elt F .f32 :=
  View.ld (wstg m c) (Rect.unit (s := S2x128x256) ![1, 0, 0] S1x128x256.size inb_S2x128x256_S1x128x256_1_0_0)

/-- Device `c`'s partial result for all tokens, in sixteen row blocks. -/
def accBuf (c : Dev nD) : S16x16x256.Idx → Elt F .bf16 :=
  k0_pay7 (k0_pay1 (istg m c)) (k0_pay2 (istg m c)) (k0_pay3 (xstg m c)) (k0_pay4 (w0 m c)) (k0_pay5 (w1 m c))
    (k0_pay6 (myWord c) (istg m c)) (Scalar.addi (Scalar.muli 2#32 (myWord c)) 1#32)

/-- The row block for device `p` at the row and column of an index into a stack of blocks. -/
def atBlock (p : Dev nD) (i : S15x16x256.Idx) : S16x16x256.Idx
  | ⟨0, _⟩ => ⟨p.val, p.isLt⟩
  | ⟨1, _⟩ => ⟨(i ⟨1, by decide⟩).val, (i ⟨1, by decide⟩).isLt⟩
  | ⟨2, _⟩ => ⟨(i ⟨2, by decide⟩).val, (i ⟨2, by decide⟩).isLt⟩

/-- The slot an index into the landing buffer lies in. -/
def slotNo (i : S15x16x256.Idx) : Fin 15 := ⟨(i ⟨0, by decide⟩).val, by exact (i ⟨0, by decide⟩).isLt⟩

/-- What device `c`'s landing buffer holds once everything has arrived: slot `k` holds the block for `c` of the partial
    result of `c`'s peer number `k`. -/
def commBuf (c : Dev nD) : S15x16x256.Idx → Elt F .bf16 := fun i => accBuf m (peer c (slotNo i)) (atBlock c i)

/-- Device `c` holds the slot `k` of its landing buffer, at contents `f`. -/
def commPts (c : Dev nD) (k : Fin 15) (f : S15x16x256.Idx → Elt F .bf16) : sProp 𝕄 :=
  (commS k).view.loc (c : Thread nD τ) ↦[(commS k).view.set]{fullShare} (show Buf (Elt F) ((commS k).view.loc (c : Thread nD τ)) from f)
/-- Device `c` holds its partial result's row block for `p`, at contents `f`. -/
def accPts (c : Dev nD) (p : Dev nD) (f : S16x16x256.Idx → Elt F .bf16) : sProp 𝕄 :=
  (accS p).view.loc (c : Thread nD τ) ↦[(accS p).view.set]{fullShare} (show Buf (Elt F) ((accS p).view.loc (c : Thread nD τ)) from f)

omit [FloatOps F] in
instance commPts_storable (c : Dev nD) (k) (f) : BI.Storable (upEmb : UEmb _ 𝕄) (commPts (F := F) c k f) := by unfold commPts; infer_instance
omit [FloatOps F] in
instance accPts_storable (c p : Dev nD) (f) : BI.Storable (upEmb : UEmb _ 𝕄) (accPts (F := F) c p f) := by unfold accPts; infer_instance

/-- Sending device `c`'s block for its peer `j` fills slot `j.rev` there with what that slot is to hold. -/
theorem landed_pts (c : Dev nD) (j : Fin 15) (fd : S15x16x256.Idx → Elt F .bf16) :
    ((commS j.rev).view.loc (peer c j : Thread nD τ) ↦[(commS j.rev).view.set]{fullShare}
        (show Buf (Elt F) ((commS j.rev).view.loc (peer c j : Thread nD τ)) from
          (commS j.rev).view.write (Elt F) fd ((accS (peer c j)).view.read (Elt F) (accBuf m c)) Finset.univ) : sProp 𝕄)
      = commPts (peer c j) j.rev (commBuf m (peer c j)) := by
  unfold commPts
  refine pointsTo_congr fun i hi => ?_
  obtain ⟨y, rfl⟩ := View.exists_emb_of_mem_set _ hi
  refine (View.write_emb_of_mem _ _ (Finset.mem_univ y)).trans ?_
  have hz : ((Shape.reshapeEquiv squeezes_S1x16x256_S16x256.numel_eq y) ⟨0, by decide⟩).val < 1 := Fin.isLt _
  have e0 : slotNo ((commS j.rev).view.emb y) = j.rev := by
    apply Fin.ext
    show j.rev.val + 1 * ((Shape.reshapeEquiv squeezes_S1x16x256_S16x256.numel_eq y) ⟨0, by decide⟩).val = _
    omega
  have ep : peer (peer c j) (slotNo ((commS j.rev).view.emb y)) = c := by rw [e0, peer_rev]
  show accBuf m c ((accS (peer c j)).view.emb y) = accBuf m (peer (peer c j) (slotNo ((commS j.rev).view.emb y))) (atBlock (peer c j) ((commS j.rev).view.emb y))
  rw [ep]
  congr 1
  funext a
  apply Fin.ext
  fin_cases a
  · show (peer c j).val + 1 * ((Shape.reshapeEquiv squeezes_S1x16x256_S16x256.numel_eq y) ⟨0, by decide⟩).val = (peer c j).val
    omega
  · rfl
  · rfl

/-! ## The protocol -/

/-- With duty `j` of device `c`'s barrier, paid by the device `c` sends its transfer `j.rev` to, comes that device's slot
    for this transfer. -/
def barPay (c : Dev nD) (j : Fin 15) : sProp 𝕄 := iprop(∃ f, commPts (peer c j.rev) j f)
/-- With a receive semaphore's duty comes the filled slot; with a send semaphore's the row block sent. -/
def rcvPay (c : Dev nD) (k : Fin 15) : sProp 𝕄 := commPts c k (commBuf m c)
def sndPay (c : Dev nD) (j : Fin 15) : sProp 𝕄 := accPts c (peer c j) (accBuf m c)

/-- One round: a barrier semaphore has fifteen duties of one unit, a send or receive semaphore one duty of a block's
    credit. -/
def plan : Rounds.Schedule (GSem nD τ sig) (Fin 15) 𝕄 where
  duties g r := if r = 0 ∧ g.1.2 = .tc then (match cls g.2 with | some (.inl _) => Finset.univ | some (.inr _) => {0} | none => ∅) else ∅
  unitless _ := False
  amount g _ _ := match cls g.2 with | some (.inl _) => 1 | _ => N
  payload g _ d := match cls g.2 with
    | some (.inl _) => barPay g.1.1 d
    | some (.inr (.inl j)) => sndPay m g.1.1 j
    | some (.inr (.inr k)) => rcvPay m g.1.1 k
    | none => iprop(emp)
  amount_pos g _ _ _ := by split; exact Nat.one_pos; exact N_pos

instance plan_payload_storable (g : GSem nD τ sig) (r : ℕ) (d : Fin 15) :
    BI.Storable (upEmb : UEmb _ 𝕄) ((plan (F := F) m).payload g r d) := by
  show BI.Storable upEmb (match cls g.2 with
    | some (.inl _) => barPay g.1.1 d
    | some (.inr (.inl j)) => sndPay m g.1.1 j
    | some (.inr (.inr k)) => rcvPay m g.1.1 k
    | none => iprop(emp))
  unfold barPay sndPay rcvPay
  split <;> infer_instance

section Facts
variable (c : Dev nD) (j : Fin 15)

theorem duties_bar : (plan (F := F) m).duties (barCell c) 0 = Finset.univ := by
  dsimp only [plan]; rw [if_pos ⟨rfl, rfl⟩, cls_bar]
theorem duties_snd : (plan (F := F) m).duties (sndCell c j) 0 = {0} := by
  dsimp only [plan]; rw [if_pos ⟨rfl, rfl⟩, cls_snd]
theorem duties_rcv : (plan (F := F) m).duties (rcvCell c j) 0 = {0} := by
  dsimp only [plan]; rw [if_pos ⟨rfl, rfl⟩, cls_rcv]
theorem duties_later (g : GSem nD τ sig) : ∀ r, 1 ≤ r → (plan (F := F) m).duties g r = ∅ :=
  fun r hr => by dsimp only [plan]; exact if_neg fun h => by omega

theorem amount_bar (d : Fin 15) : (plan (F := F) m).amount (barCell c) 0 d = 1 := by dsimp only [plan]; rw [cls_bar]
theorem amount_snd (d : Fin 15) : (plan (F := F) m).amount (sndCell c j) 0 d = N := by dsimp only [plan]; rw [cls_snd]
theorem amount_rcv (d : Fin 15) : (plan (F := F) m).amount (rcvCell c j) 0 d = N := by dsimp only [plan]; rw [cls_rcv]

theorem payload_bar (d : Fin 15) : (plan (F := F) m).payload (barCell c) 0 d = barPay c d := by dsimp only [plan]; rw [cls_bar]
theorem payload_snd (d : Fin 15) : (plan (F := F) m).payload (sndCell c j) 0 d = sndPay m c j := by dsimp only [plan]; rw [cls_snd]
theorem payload_rcv (d : Fin 15) : (plan (F := F) m).payload (rcvCell c j) 0 d = rcvPay m c j := by dsimp only [plan]; rw [cls_rcv]

theorem expect_bar : (plan (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_snd : (plan (F := F) m).expect (sndCell c j) 0 = N := by
  unfold Schedule.expect Schedule.amountOf; rw [duties_snd, Finset.sum_singleton, amount_snd]
theorem expect_rcv : (plan (F := F) m).expect (rcvCell c j) 0 = N := by
  unfold Schedule.expect Schedule.amountOf; rw [duties_rcv, Finset.sum_singleton, amount_rcv]

/-- What a barrier wait brings: the slot of every peer for the transfer to it. -/
theorem rest_bar : bigSep ((plan (F := F) m).duties (barCell c) 0 \ ∅) (fun d => (plan (F := F) m).payload (barCell c) 0 d)
    = bigSep Finset.univ (fun j : Fin 15 => (iprop(∃ f, commPts (peer c j) j.rev f) : sProp 𝕄)) := by
  rw [Finset.sdiff_empty, duties_bar, bigSep_congr fun d _ => payload_bar m c d,
    BI.bigSep_univ_equiv Fin.revPerm (fun j : Fin 15 => barPay c j)]
  refine bigSep_congr fun j _ => ?_
  unfold barPay
  rw [Fin.revPerm_apply, Fin.rev_rev]
theorem rest_snd : bigSep ((plan (F := F) m).duties (sndCell c j) 0 \ ∅) (fun d => (plan (F := F) m).payload (sndCell c j) 0 d) = sndPay m c j := by
  rw [Finset.sdiff_empty, duties_snd, bigSep_singleton, payload_snd]
theorem rest_rcv : bigSep ((plan (F := F) m).duties (rcvCell c j) 0 \ ∅) (fun d => (plan (F := F) m).payload (rcvCell c j) 0 d) = rcvPay m c j := by
  rw [Finset.sdiff_empty, duties_rcv, bigSep_singleton, payload_rcv]

end Facts

/-! ## What each device owes; the order of waiting -/

/-- The transfers numbered `n` and up, and those below `n`. -/
def rest (n : ℕ) : Finset (Fin 15) := Finset.univ.filter fun j => n ≤ j.val
def done (n : ℕ) : Finset (Fin 15) := Finset.univ.filter fun j => j.val < n

theorem rest_zero : rest 0 = Finset.univ := by decide
theorem rest_end : rest 15 = ∅ := by decide
theorem done_zero : done 0 = ∅ := by decide
theorem done_end : done 15 = Finset.univ := by decide
theorem rest_step (j : Fin 15) : rest j.val = insert j (rest (j.val + 1)) := by revert j; decide
theorem rest_new (j : Fin 15) : j ∉ rest (j.val + 1) := by revert j; decide
theorem done_step (j : Fin 15) : done (j.val + 1) = insert j (done j.val) := by revert j; decide
theorem done_new (j : Fin 15) : j ∉ done j.val := by revert j; decide

/-- What device `c` still owes the receive semaphores before its transfer number `n`, and the barriers before its
    signal number `n`. -/
def owesRcv (c : Dev nD) (n : ℕ) : CellTallies nD τ sig Unit := ∑ j ∈ rest n, tallyAt (rcvCell (peer c j) j.rev) () N
def owesBar (c : Dev nD) (n : ℕ) : CellTallies nD τ sig Unit := ∑ j ∈ rest n, tallyAt (barCell (peer c j)) () 1
/-- What it owes at launch. -/
def O₀ (c : Dev nD) : CellTallies nD τ sig Unit := owesRcv c 0 + owesBar c 0

theorem owesRcv_step (c : Dev nD) (j : Fin 15) : owesRcv c j.val = owesRcv c (j.val + 1) + tallyAt (rcvCell (peer c j) j.rev) () N := by
  unfold owesRcv; rw [rest_step, Finset.sum_insert (rest_new j), add_comm]
theorem owesBar_step (c : Dev nD) (j : Fin 15) : owesBar c j.val = owesBar c (j.val + 1) + tallyAt (barCell (peer c j)) () 1 := by
  unfold owesBar; rw [rest_step, Finset.sum_insert (rest_new j), add_comm]
theorem owesRcv_end (c : Dev nD) : owesRcv c 15 = 0 := by unfold owesRcv; rw [rest_end, Finset.sum_empty]
theorem owesBar_end (c : Dev nD) : owesBar c 15 = 0 := by unfold owesBar; rw [rest_end, Finset.sum_empty]

def L (g : GSem nD τ sig) : Finset Unit := if g.1.2 = .tc then {()} else ∅
/-- The barriers come before the receive semaphores; the staging and send ones before both. -/
def lv (g : GSem nD τ sig) (_ : Unit) : ℕ := match cls g.2 with | some (.inl _) => 1 | some (.inr (.inr _)) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by dsimp only [lv]; rw [cls_bar]
theorem lv_rcv (c : Dev nD) (k : Fin 15) : lv (rcvCell c k) () = 2 := by dsimp only [lv]; rw [cls_rcv]

omit [FloatOps F] in
theorem owesRcv_pos {c : Dev nD} {n : ℕ} {g : GSem nD τ sig} {u : Unit} (h : 0 < owesRcv c n g u) : ∃ j, g = rcvCell (peer c j) j.rev := by
  obtain ⟨j, -, hj⟩ := Pipeline.sum_pos_exists h
  rw [tallyAt_apply] at hj
  by_contra hn
  rw [if_neg fun h' => hn ⟨j, h'.1⟩] at hj
  exact Nat.lt_irrefl 0 hj
omit [FloatOps F] in
theorem owesBar_pos {c : Dev nD} {n : ℕ} {g : GSem nD τ sig} {u : Unit} (h : 0 < owesBar c n g u) : ∃ j, g = barCell (peer c j) := by
  obtain ⟨j, -, hj⟩ := Pipeline.sum_pos_exists h
  rw [tallyAt_apply] at hj
  by_contra hn
  rw [if_neg fun h' => hn ⟨j, h'.1⟩] at hj
  exact Nat.lt_irrefl 0 hj
omit [FloatOps F] in
theorem O₀_pos {c : Dev nD} {g : GSem nD τ sig} {u : Unit} (h : 0 < O₀ c g u) :
    (∃ j, g = rcvCell (peer c j) j.rev) ∨ ∃ j, g = barCell (peer c j) := by
  unfold O₀ at h
  rw [Pi.add_apply, Finsupp.add_apply] at h
  rcases Nat.pos_of_ne_zero (by omega : owesRcv c 0 g u + owesBar c 0 g u ≠ 0) |> fun h => (by omega : 0 < owesRcv c 0 g u ∨ 0 < owesBar c 0 g u) with h | h
  · exact .inl (owesRcv_pos h)
  · exact .inr (owesBar_pos h)

omit [FloatOps F] in
/-- A device may wait on a staging semaphore whatever it owes of the exchange. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    rw [hq]
    rcases O₀_pos hg with ⟨j, rfl⟩ | ⟨j, rfl⟩
    · exact ⟨by rw [L_tc]; exact Finset.mem_singleton_self _, by rw [lv_rcv]; decide⟩
    · exact ⟨by rw [L_tc]; exact Finset.mem_singleton_self _, by rw [lv_bar]; decide⟩
  · rw [MayWait_zero]; iintro -; iempintro

omit [FloatOps F] in
/-- A device may wait at its barrier while it owes only its transfers. -/
theorem mayWait_bar (c : Dev nD) (n : ℕ) : (levAts L lv : sProp 𝕄) ⊢ MayWait (c : Thread nD τ) (.reg barS) () (owesRcv c n) :=
  Pipeline.mayWait_of_levAts (by rw [L_tc]; exact Finset.mem_singleton_self _) fun g u hg => by
    obtain ⟨j, rfl⟩ := owesRcv_pos hg
    exact ⟨by rw [L_tc]; exact Finset.mem_singleton_self _, by rw [lv_rcv, lv_bar]; decide⟩

end Cert.Exchange

end
-- ==== Proof.Steps.lean ====
/-
# The steps of the exchange

Four stretches of the kernel's body do the same thing fifteen times over: signal a peer, send a peer its block, wait
for a slot to be filled, wait for a block to have been sent. Between two steps of a stretch the device holds what the
steps still to come use up and what the steps done have left; one lemma moves from one such state to the next, and each
stretch is an instance of it. Then: how the two scratch buffers are cut into the pieces the steps pass around.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- What every device may use at any time: each cell of the exchange is under its invariant, at the name `K` gives it,
    and has reached its only round. -/
def records (K : Dev nD × Kind → ℕ) : sProp 𝕄 :=
  iprop((bigSep Finset.univ fun ck : Dev nD × Kind => cellInv EX (plan m) (K ck) (cell ck.1 ck.2))
    ∗ bigSep Finset.univ fun ck : Dev nD × Kind => reached EX (cell ck.1 ck.2) 0)

instance records_persistent (K : Dev nD × Kind → ℕ) : BI.Persistent (records m K) := by unfold records; infer_instance

theorem inv_at (K : Dev nD × Kind → ℕ) (c : Dev nD) (k : Kind) : records m K ⊢ cellInv EX (plan m) (K (c, k)) (cell c k) := by
  unfold records
  iintro ⟨H, -⟩
  iapply (show (bigSep Finset.univ fun ck : Dev nD × Kind => (cellInv EX (plan m) (K ck) (cell ck.1 ck.2) : sProp 𝕄)) ⊢ cellInv EX (plan m) (K (c, k)) (cell c k)
    from bigSep_elim (Finset.mem_univ (c, k)))
  iexact H
theorem reached_at (K : Dev nD × Kind → ℕ) (c : Dev nD) (k : Kind) : records m K ⊢ reached EX (cell c k) 0 := by
  unfold records
  iintro ⟨-, H⟩
  iapply (show (bigSep Finset.univ fun ck : Dev nD × Kind => (reached EX (cell ck.1 ck.2) 0 : sProp 𝕄)) ⊢ reached EX (cell c k) 0
    from bigSep_elim (Finset.mem_univ (c, k)))
  iexact H

/-- A stretch after `n` of its fifteen steps: each step to come still has its `A`, each step done has left its `B`, and
    device `c` owes `O n`. -/
def stage (K : Dev nD × Kind → ℕ) (c : Dev nD) (A B : Fin 15 → sProp 𝕄) (O : ℕ → CellTallies nD τ sig Unit) (n : ℕ) : sProp 𝕄 :=
  iprop(records m K ∗ bigSep (rest n) A ∗ bigSep (done n) B ∗ ∃ W, owes (c : Thread nD τ) (O n) W)

/-- Step `j` taken out of the steps to come, and added to the steps done. -/
theorem rest_take (j : Fin 15) (A : Fin 15 → sProp 𝕄) : bigSep (rest j.val) A = iprop(A j ∗ bigSep (rest (j.val + 1)) A) := by
  rw [rest_step]; exact bigSep_insert (rest_new j)
theorem done_put (j : Fin 15) (B : Fin 15 → sProp 𝕄) : bigSep (done (j.val + 1)) B = iprop(B j ∗ bigSep (done j.val) B) := by
  rw [done_step]; exact bigSep_insert (done_new j)

variable {m}
variable {K : Dev nD × Kind → ℕ} {c : Dev nD}

section Step
variable {α : Type} {k : PUnit → Prog (TpuEff nD τ sig (Elt F) Λ₀ .tc) α} {Q : α → sProp (MT nD τ sig Unit (Elt F) ℕ UU ℕ)}

/-- An effect that turns step `j`'s `A` into its `B` moves the stretch on by one step. -/
theorem stage_step {A B : Fin 15 → sProp 𝕄} {O : ℕ → CellTallies nD τ sig Unit} (j : Fin 15) {n n' : ℕ} (hn : j.val = n) (hn' : j.val + 1 = n')
    {e : TpuEff nD τ sig (Elt F) Λ₀ .tc PUnit}
    (h : ∀ W, iprop(records m K ∗ A j ∗ owes (c : Thread nD τ) (O j.val) W)
      ⊢ iprop(((B j ∗ ∃ W', owes (c : Thread nD τ) (O (j.val + 1)) W') -∗ wp frame (wpE (defs₀ (F := F)) 𝒱₀ (c : Thread nD τ) none) Set.univ (k ⟨⟩) Q)
          -∗ wp frame (wpE (defs₀ (F := F)) 𝒱₀ (c : Thread nD τ) none) Set.univ (.op e k) Q)) :
    stage m K c A B O n
      ⊢ iprop((stage m K c A B O n' -∗ wp frame (wpE (defs₀ (F := F)) 𝒱₀ (c : Thread nD τ) none) Set.univ (k ⟨⟩) Q)
          -∗ wp frame (wpE (defs₀ (F := F)) 𝒱₀ (c : Thread nD τ) none) Set.univ (.op e k) Q) := by
  subst hn hn'
  unfold stage
  rw [rest_take, done_put]
  iintro ⟨#HR, ⟨HA, HAs⟩, HBs, %W, HO⟩ Hk
  iapply (h W) $$ [HA HO]
  · isplitr; · iexact HR
    isplitl [HA] <;> iassumption
  iintro ⟨HB, HO⟩
  iapply Hk
  isplitr; · iexact HR
  isplitl [HAs]; · iexact HAs
  isplitl [HB HBs]
  · isplitl [HB] <;> iassumption
  iexact HO

/-! ## The signals -/

/-- Before signal `j`: the duty at the peer's barrier, and the slot to hand over with it. -/
def sigA (c : Dev nD) (j : Fin 15) : sProp 𝕄 := iprop(dutyTok EX (barCell (peer c j)) 0 j ∗ ∃ f, commPts c j f)
def sigSt (m : (ℓ : Loc nD τ sig) → Buf (Elt F) ℓ) (K : Dev nD × Kind → ℕ) (c : Dev nD) (n : ℕ) : sProp 𝕄 :=
  stage m K c (sigA c) (fun _ => iprop(emp)) (fun n => owesRcv c 0 + owesBar c n) n

/-- Signal `j`, to device `d`, which is the peer number `j`. -/
theorem sig_step (j : Fin 15) {n n' : ℕ} (hn : j.val = n) (hn' : j.val + 1 = n') (d : Dev nD) (hd : d = peer c j) :
    sigSt m K c n
      ⊢ iprop((sigSt m K c n' -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d : Thread nD τ) barS (1#32).toInt) k) Q) := by
  subst hd
  refine stage_step j hn hn' fun W => ?_
  unfold sigA
  iintro ⟨#HR, ⟨Ht, Hs⟩, HO⟩ Hk
  iapply (Rounds.wp_signal 𝒱₀ EX (plan m) (c : Thread nD τ) none (dst := (peer c j : Thread nD τ)) (κ := K (peer c j, kBar))
      (d := j) (by rw [duties_bar]; exact Finset.mem_univ _) ((amount_bar m (peer c j) j).trans (by decide)) () (owesRcv c 0 + owesBar c (j.val + 1))
      (show owesRcv c 0 + owesBar c j.val = owesRcv c 0 + owesBar c (j.val + 1) + tallyAt (barCell (peer c j)) () 1 by rw [owesBar_step, add_assoc])) $$ [Ht Hs HO]
  · isplitr; · iapply (inv_at m K (peer c j) kBar); iexact HR
    isplitl [HO]; · iexact HO
    isplitl [Ht]; · iexact Ht
    isplitl [Hs]; · rw [payload_bar]; unfold barPay; rw [peer_rev]; iexact Hs
    iapply (reached_at m K (peer c j) kBar); iexact HR
  iintro HO
  iapply Hk
  isplitr; · iempintro
  iexists _; iexact HO

/-! ## The transfers -/

/-- Before transfer `j`: the duties at the device's send and the peer's receive semaphore, the block to send, the peer's
    slot it goes to; -/
def sndA (m : (ℓ : Loc nD τ sig) → Buf (Elt F) ℓ) (c : Dev nD) (j : Fin 15) : sProp 𝕄 :=
  iprop((dutyTok EX (sndCell c j) 0 0 ∗ dutyTok EX (rcvCell (peer c j) j.rev) 0 0) ∗ accPts c (peer c j) (accBuf m c) ∗ ∃ f, commPts (peer c j) j.rev f)
/-- after it: the credit to wait for its completion with. -/
def sndB (c : Dev nD) (j : Fin 15) : sProp 𝕄 := cred (tallyAt (sndCell c j) () N)
def sndSt (m : (ℓ : Loc nD τ sig) → Buf (Elt F) ℓ) (K : Dev nD × Kind → ℕ) (c : Dev nD) (n : ℕ) : sProp 𝕄 :=
  stage m K c (sndA m c) (sndB c) (owesRcv c) n

/-- The library's rule for a transfer, at transfer `j`. -/
theorem snd_rule (j : Fin 15) (fd : S15x16x256.Idx → Elt F .bf16) (W : Waits sig Unit)
    {hsc : (commS j.rev : Memref sig (Dev.tc (peer c j) : Thread nD τ).2.kind .vmem S16x256 .bf16).view.ref.isScScratch = false}
    {hsrc : (accS (peer c j)).view.WordExact} {hdst : (commS j.rev).view.WordExact}
    {hsem : DmaTarget.Typed .vmem (.dma (rcvS j.rev)) (.remote (Dev.tc (peer c j) : Thread nD τ) (commS j.rev) (.dma (sndS j)) hsc)} :
    iprop(cellInv EX (plan m) (K (c, kSnd j)) (sndCell c j) ∗ cellInv EX (plan m) (K (peer c j, kRcv j.rev)) (rcvCell (peer c j) j.rev)
        ∗ accPts c (peer c j) (accBuf m c) ∗ commPts (peer c j) j.rev fd ∗ owes (c : Thread nD τ) (owesRcv c j.val) W
        ∗ dutyTok EX (sndCell c j) 0 0 ∗ reached EX (sndCell c j) 0
        ∗ dutyTok EX (rcvCell (peer c j) j.rev) 0 0 ∗ reached EX (rcvCell (peer c j) j.rev) 0)
      ⊢ iprop(((cred (tallyAt (sndCell c j) () N) ∗ owes (c : Thread nD τ) (owesRcv c (j.val + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (accS (peer c j)) (.remote (Dev.tc (peer c j) : Thread nD τ) (commS j.rev) (.dma (sndS j)) hsc) (.dma (rcvS j.rev)) hsrc hdst hsem) k) Q) := by
  have h1 : (0 : Fin 15) ∈ (plan (F := F) m).duties (sndCell c j) 0 := by rw [duties_snd]; exact Finset.mem_singleton_self _
  have h2 : (0 : Fin 15) ∈ (plan (F := F) m).duties (rcvCell (peer c j) j.rev) 0 := by rw [duties_rcv]; exact Finset.mem_singleton_self _
  have h3 : (commS j.rev).view.amount (.dma (rcvS j.rev)) = N := comm_credit j.rev
  have h4 : accPts c (peer c j) (accBuf m c) ⊢ (plan (F := F) m).payload (sndCell c j) 0 0 := by rw [payload_snd]; exact BI.Entails.refl _
  have h5 : ((commS j.rev).view.loc (peer c j : Thread nD τ) ↦[(commS j.rev).view.set]{fullShare}
        (show Buf (Elt F) ((commS j.rev).view.loc (peer c j : Thread nD τ)) from
          (commS j.rev).view.write (Elt F) fd ((accS (peer c j)).view.read (Elt F) (accBuf m c)) Finset.univ) : sProp 𝕄)
      ⊢ (plan (F := F) m).payload (rcvCell (peer c j) j.rev) 0 0 := by rw [payload_rcv]; exact Entails.of_eq (landed_pts m c j fd)
  have h6 := amount_snd m c j 0
  have h7 := amount_rcv m (peer c j) j.rev 0
  unfold accPts at h4
  unfold accPts commPts
  exact Rounds.wp_send_pointsTo 𝒱₀ EX (plan m) (c : Thread nD τ) none (κ₁ := K (c, kSnd j)) (κ₂ := K (peer c j, kRcv j.rev))
    (r₁ := 0) (r₂ := 0) (d₁ := 0) (d₂ := 0) (fd := fd) h1 h2 () () N h3 h6 h7 (owesRcv c (j.val + 1)) (owesRcv_step c j) (W := W) h4 h5

/-- Transfer `j`: its source is the block for the peer, its target the peer's slot, its semaphores those of the
    transfer and the slot. -/
theorem snd_step (j : Fin 15) {n n' : ℕ} (hn : j.val = n) (hn' : j.val + 1 = n') (d : Dev nD) (hd : d = peer c j)
    {src : Memref sig .tc .vmem S16x256 .bf16} (hs : src = accS (peer c j)) {dst : Memref sig (Dev.tc d : Thread nD τ).2.kind .vmem S16x256 .bf16} (ht : dst = commS j.rev)
    {sS sV : DmaSem sig} (hS : sS = sndS j) (hV : sV = rcvS j.rev)
    {hsc : dst.view.ref.isScScratch = false} {hsrc : src.view.WordExact} {hdst : dst.view.WordExact}
    {hsem : DmaTarget.Typed .vmem (.dma sV) (.remote (Dev.tc d : Thread nD τ) dst (.dma sS) hsc)} :
    sndSt m K c n
      ⊢ iprop((sndSt m K c n' -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst (.dma sS) hsc) (.dma sV) hsrc hdst hsem) k) Q) := by
  subst hd hs ht hS hV
  refine stage_step j hn hn' fun W => ?_
  unfold sndA
  iintro ⟨#HR, ⟨⟨HtS, HtV⟩, Hsrc, %fd, Hdst⟩, HO⟩ Hk
  iapply (snd_rule j fd W) $$ [Hsrc Hdst HO HtS HtV]
  · isplitr; · iapply (inv_at m K c (kSnd j)); iexact HR
    isplitr; · iapply (inv_at m K (peer c j) (kRcv j.rev)); iexact HR
    isplitl [Hsrc]; · iexact Hsrc
    isplitl [Hdst]; · iexact Hdst
    isplitl [HO]; · iexact HO
    isplitl [HtS]; · iexact HtS
    isplitr; · iapply (reached_at m K c (kSnd j)); iexact HR
    isplitl [HtV]; · iexact HtV
    iapply (reached_at m K (peer c j) (kRcv j.rev)); iexact HR
  iintro ⟨Hc, HO⟩
  iapply Hk
  isplitl [Hc]; · unfold sndB; iexact Hc
  iexists W; iexact HO

/-! ## The waits -/

/-- Before waiting for slot `k`: the credit, and the place in the receive semaphore's round; -/
def rcvA (c : Dev nD) (k : Fin 15) : sProp 𝕄 := iprop(cred (tallyAt (rcvCell c k) () N) ∗ atPos EX (rcvCell c k) 0 ∅ 0)
/-- after it: the filled slot, and the semaphore at zero. -/
def rcvB (m : (ℓ : Loc nD τ sig) → Buf (Elt F) ℓ) (c : Dev nD) (k : Fin 15) : sProp 𝕄 := iprop(commPts c k (commBuf m c) ∗ semVal (rcvCell c k) 0)
def rcvSt (m : (ℓ : Loc nD τ sig) → Buf (Elt F) ℓ) (K : Dev nD × Kind → ℕ) (c : Dev nD) (n : ℕ) : sProp 𝕄 :=
  stage m K c (rcvA c) (rcvB m c) (fun _ => 0) n

/-- The same for transfer `j`'s send semaphore: the block sent comes back. -/
def sntA (c : Dev nD) (j : Fin 15) : sProp 𝕄 := iprop(cred (tallyAt (sndCell c j) () N) ∗ atPos EX (sndCell c j) 0 ∅ 0)
def sntB (m : (ℓ : Loc nD τ sig) → Buf (Elt F) ℓ) (c : Dev nD) (j : Fin 15) : sProp 𝕄 := iprop(accPts c (peer c j) (accBuf m c) ∗ semVal (sndCell c j) 0)
def sntSt (m : (ℓ : Loc nD τ sig) → Buf (Elt F) ℓ) (K : Dev nD × Kind → ℕ) (c : Dev nD) (n : ℕ) : sProp 𝕄 :=
  stage m K c (sntA c) (sntB m c) (fun _ => 0) n

/-- A wait that takes the whole of a cell's only round, owing nothing, and ends the cell's use: the round's payload and
    the semaphore at zero. -/
theorem wait_close {kd : Kind} {a : ℕ} {P : sProp 𝕄} {W : Waits sig Unit} {w : TpuEff nD τ sig (Elt F) Λ₀ .tc PUnit}
    (hw : ∀ Z : PUnit → sProp 𝕄, wpE (defs₀ (F := F)) 𝒱₀ (c : Thread nD τ) none Set.univ w Z = waitSpec (c : Thread nD τ) Set.univ (csem kd) a Z)
    (hx : (plan m).expect (cell c kd) 0 = a)
    (hP : bigSep ((plan (F := F) m).duties (cell c kd) 0 \ ∅) (fun d => (plan (F := F) m).payload (cell c kd) 0 d) = P) :
    iprop(records m K ∗ (cred (tallyAt (cell c kd) () a) ∗ atPos EX (cell c kd) 0 ∅ 0) ∗ owes (c : Thread nD τ) 0 W)
      ⊢ iprop((((P ∗ semVal (cell c kd) 0) ∗ ∃ W', owes (c : Thread nD τ) 0 W') -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#HR, ⟨Hc, Ha⟩, HO⟩ Hk
  iapply (Rounds.wp_wait_rest_token 𝒱₀ EX (plan m) (c : Thread nD τ) none (κ := K (c, kd)) hw (Set.mem_univ _) () (O := 0) (W := W) (R := 0) (m := 0) (T := ∅)
      (by rw [Nat.zero_add]; exact hx.symm)) $$ [Hc HO Ha]
  · isplitr; · iapply (inv_at m K c kd); iexact HR
    isplitl [Hc]; · iexact Hc
    isplitl [HO]; · iexact HO
    isplitr; · rw [MayWait_zero]; iempintro
    iexact Ha
  iintro ⟨HO, Ha, -, Hp⟩
  ihave Hp := (Entails.of_eq hP) $$ Hp
  imod (Rounds.cell_close EX (plan m) (Set.mem_univ (K (c, kd))) (fun h => h) (R := 0 + 1) (duties_later m (cell c kd))) $$ [Ha] with Hz
  · isplitr; · iapply (inv_at m K c kd); iexact HR
    iexact Ha
  iapply Hk
  isplitl [Hp Hz]
  · isplitl [Hp] <;> iassumption
  iexists _; iexact HO

/-- The wait for slot `i`, whatever the source the wait names. -/
theorem rcv_step (i : Fin 15) {n n' : ℕ} (hn : i.val = n) (hn' : i.val + 1 = n')
    {src dst : Memref sig .tc .vmem S16x256 .bf16} (ht : dst = commS i) {sV : DmaSem sig} (hV : sV = rcvS i)
    {hsrc : src.view.WordExact} {hdst : dst.view.WordExact} :
    rcvSt m K c n
      ⊢ iprop((rcvSt m K c n' -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sV src dst hsrc hdst) k) Q) := by
  subst ht hV
  refine stage_step i hn hn' fun W => ?_
  exact wait_close (kd := kRcv i) (wpE_waitDma2_eq 𝒱₀ (c : Thread nD τ) none Set.univ) (expect_rcv m c i) (rest_rcv m c i)

/-- The wait for transfer `j` to have been sent, whose size the wait reads off the block. -/
theorem snt_step (j : Fin 15) {n n' : ℕ} (hn : j.val = n) (hn' : j.val + 1 = n')
    {src dst : Memref sig .tc .vmem S16x256 .bf16} (ht : dst = accS (peer c j)) {sS : DmaSem sig} (hS : sS = sndS j)
    {hsrc : src.view.WordExact} {hdst : dst.view.WordExact} :
    sntSt m K c n
      ⊢ iprop((sntSt m K c n' -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst ht hS
  refine stage_step j hn hn' fun W => ?_
  exact wait_close (kd := kSnd j) (wpE_waitDma2_eq 𝒱₀ (c : Thread nD τ) none Set.univ) (expect_snd m c j) (rest_snd m c j)

end Step

/-! ## Cutting the two scratch buffers -/

/-- The slice a program takes at an offset that is a block's is that block; likewise for slots and semaphores. -/
theorem accS_of (p : Dev nD) {off : Fin 3 → ℕ} (h : off = ![p.val, 0, 0]) (inb) (hr) :
    ((Memref.whole cc0_scratch0 : Memref sig .tc .vmem S16x16x256 .bf16).slice (Rect.unit (s := S16x16x256) off S1x16x256.size inb) hr).squeeze
      S16x256 squeezes_S1x16x256_S16x256 = accS p := by subst h; rfl

theorem accS_set (p : Dev nD) : (accS p).view.set = (Rect.unit (s := S16x16x256) ![p.val, 0, 0] S1x16x256.size (acc_inb p)).set := by
  exact (View.set_reshape _ _).trans (View.set_slice_whole _ _)
theorem commS_set (k : Fin 15) : (commS k).view.set = (Rect.unit (s := S15x16x256) ![k.val, 0, 0] S1x16x256.size (comm_inb k)).set := by
  exact (View.set_reshape _ _).trans (View.set_slice_whole _ _)

theorem mem_acc (p : Dev nD) (i : S16x16x256.Idx) : i ∈ (Rect.unit (s := S16x16x256) ![p.val, 0, 0] S1x16x256.size (acc_inb p)).set ↔ (i ⟨0, by decide⟩).val = p.val := by
  rw [Rect.mem_set_unit]
  constructor
  · intro h
    have h0 := h ⟨0, by decide⟩
    have h1 : (i ⟨0, by decide⟩).val < p.val + 1 := h0.2
    have h2 : p.val ≤ (i ⟨0, by decide⟩).val := h0.1
    omega
  · intro h a
    fin_cases a
    · exact ⟨le_of_eq h.symm, by show (i ⟨0, by decide⟩).val < p.val + 1; omega⟩
    · exact ⟨Nat.zero_le _, by show _ < 0 + 16; rw [Nat.zero_add]; exact (i ⟨1, by decide⟩).isLt⟩
    · exact ⟨Nat.zero_le _, by show _ < 0 + 256; rw [Nat.zero_add]; exact (i ⟨2, by decide⟩).isLt⟩
theorem mem_comm (p : Fin 15) (i : S15x16x256.Idx) : i ∈ (Rect.unit (s := S15x16x256) ![p.val, 0, 0] S1x16x256.size (comm_inb p)).set ↔ (i ⟨0, by decide⟩).val = p.val := by
  rw [Rect.mem_set_unit]
  constructor
  · intro h
    have h0 := h ⟨0, by decide⟩
    have h1 : (i ⟨0, by decide⟩).val < p.val + 1 := h0.2
    have h2 : p.val ≤ (i ⟨0, by decide⟩).val := h0.1
    omega
  · intro h a
    fin_cases a
    · exact ⟨le_of_eq h.symm, by show (i ⟨0, by decide⟩).val < p.val + 1; omega⟩
    · exact ⟨Nat.zero_le _, by show _ < 0 + 16; rw [Nat.zero_add]; exact (i ⟨1, by decide⟩).isLt⟩
    · exact ⟨Nat.zero_le _, by show _ < 0 + 256; rw [Nat.zero_add]; exact (i ⟨2, by decide⟩).isLt⟩

/-- The whole partial result, the whole landing buffer, of device `c`. -/
def accAll (c : Dev nD) (f : S16x16x256.Idx → Elt F .bf16) : sProp 𝕄 :=
  ((c : Thread nD τ).loc cc0_scratch0) ↦{fullShare} (show Buf (Elt F) ((c : Thread nD τ).loc cc0_scratch0) from f)
def commAll (c : Dev nD) (f : S15x16x256.Idx → Elt F .bf16) : sProp 𝕄 :=
  ((c : Thread nD τ).loc cc0_scratch1) ↦{fullShare} (show Buf (Elt F) ((c : Thread nD τ).loc cc0_scratch1) from f)

/-- The landing buffer is its fifteen slots. -/
theorem commAll_eq (c : Dev nD) (f : S15x16x256.Idx → Elt F .bf16) : (commAll c f : sProp 𝕄) = bigSep Finset.univ fun k : Fin 15 => commPts c k f := by
  unfold commAll
  refine (Ring.pointsTo_blocks (ℓ := (c : Thread nD τ).loc cc0_scratch1) (fun k : Fin 15 => (commS k).view.set) (fun k k' h => ?_) ?_ _).trans rfl
  · rw [commS_set, commS_set]
    exact Finset.disjoint_left.mpr fun i h1 h2 => h (Fin.ext (((mem_comm k i).mp h1).symm.trans ((mem_comm k' i).mp h2)))
  · refine Finset.eq_univ_iff_forall.mpr fun i => Finset.mem_biUnion.mpr ⟨slotNo i, Finset.mem_univ _, ?_⟩
    rw [commS_set]
    exact (mem_comm (slotNo i) i).mpr rfl

theorem others_eq (c : Dev nD) : Finset.univ.erase c = (Finset.univ : Finset (Fin 15)).map ⟨peer c, fun _ _ h => peer_inj c h⟩ := by
  ext d
  rw [Finset.mem_erase, Finset.mem_map]
  constructor
  · rintro ⟨h, -⟩
    obtain ⟨j, hj⟩ := peer_surj c d h
    exact ⟨j, Finset.mem_univ _, hj⟩
  · rintro ⟨j, -, rfl⟩
    exact ⟨peer_ne c j, Finset.mem_univ _⟩

/-- The block an index into the partial result lies in. -/
def blockNo (i : S16x16x256.Idx) : Dev nD := ⟨(i ⟨0, by decide⟩).val, by exact (i ⟨0, by decide⟩).isLt⟩

/-- The partial result is the device's own block and the blocks for its fifteen peers. -/
theorem accAll_eq (c : Dev nD) (f : S16x16x256.Idx → Elt F .bf16) :
    (accAll c f : sProp 𝕄) = iprop(accPts c c f ∗ bigSep Finset.univ fun j : Fin 15 => accPts c (peer c j) f) := by
  unfold accAll
  refine (Ring.pointsTo_blocks (ℓ := (c : Thread nD τ).loc cc0_scratch0) (fun p : Dev nD => (accS p).view.set) (fun k k' h => ?_) ?_ _).trans ?_
  · rw [accS_set, accS_set]
    exact Finset.disjoint_left.mpr fun i h1 h2 => h (Fin.ext (((mem_acc k i).mp h1).symm.trans ((mem_acc k' i).mp h2)))
  · refine Finset.eq_univ_iff_forall.mpr fun i => Finset.mem_biUnion.mpr ⟨blockNo i, Finset.mem_univ _, ?_⟩
    rw [accS_set]
    exact (mem_acc _ i).mpr rfl
  · rw [bigSep_univ_at _ c, others_eq, bigSep_map]; rfl

end Cert.Exchange

end
-- ==== Proof.Body.lean ====
/-
# What the kernel's body starts and ends with

What a device holds when the body starts, between its stretches, and when it ends: its result stored, its scratch
buffers back, every semaphore of the exchange at zero.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## What a device starts and ends with -/

/-- Device `c`'s result block: its own block of its partial result plus the fifteen that arrived. -/
def outAt (c : Dev nD) : S16x256.Idx → Elt F .f32 :=
  k0_pay8 (View.ld (accBuf m c) (Rect.unit (s := S16x16x256) ![c.val, 0, 0] S1x16x256.size (acc_inb c))) (commBuf m c)

/-- The duties device `c` pays: its peers' barriers, its peers' receive semaphores, its own send semaphores. -/
def payToks (c : Dev nD) : sProp 𝕄 :=
  iprop((bigSep Finset.univ fun j : Fin 15 => dutyTok EX (barCell (peer c j)) 0 j)
    ∗ (bigSep Finset.univ fun j : Fin 15 => dutyTok EX (rcvCell (peer c j) j.rev) 0 0)
    ∗ bigSep Finset.univ fun j : Fin 15 => dutyTok EX (sndCell c j) 0 0)
/-- Its place in the rounds of its own cells. -/
def places (c : Dev nD) : sProp 𝕄 :=
  iprop(atPos EX (barCell c) 0 ∅ 0 ∗ (bigSep Finset.univ fun j : Fin 15 => atPos EX (sndCell c j) 0 ∅ 0)
    ∗ bigSep Finset.univ fun j : Fin 15 => atPos EX (rcvCell c j) 0 ∅ 0)
def ghost (K : Dev nD × Kind → ℕ) (c : Dev nD) : sProp 𝕄 := iprop(records m K ∗ places c ∗ payToks c)
/-- The credits device `c` waits with: fifteen units at its barrier, a block's at each receive semaphore. -/
def credits (c : Dev nD) : sProp 𝕄 :=
  iprop(cred (tallyAt (barCell c) () 15) ∗ bigSep Finset.univ fun k : Fin 15 => cred (tallyAt (rcvCell c k) () N))
def start (c : Dev nD) : sProp 𝕄 := iprop((∃ K, ghost m K c) ∗ credits c ∗ levAts L lv)

def Φ₀ (c : Dev nD) : sProp 𝕄 := iprop(start m c ∗ (∃ f, accAll c f) ∗ ∃ f, commAll c f)
def Φ₁ (c : Dev nD) : sProp 𝕄 :=
  iprop((accAll c (accBuf m c) ∗ commAll c (commBuf m c))
    ∗ (bigSep Finset.univ fun j : Fin 15 => semVal (sndCell c j) 0) ∗ (bigSep Finset.univ fun j : Fin 15 => semVal (rcvCell c j) 0)
    ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => istg m c
    | ⟨2, _⟩ => wstg m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## Between the stretches -/

section Stretches
variable {m}
variable (K : Dev nD × Kind → ℕ) (c : Dev nD) (A B : Fin 15 → sProp (MT nD τ sig Unit (Elt F) ℕ UU ℕ)) (O : ℕ → CellTallies nD τ sig Unit)

theorem stage_intro (W : Waits sig Unit) : iprop(records m K ∗ bigSep Finset.univ A ∗ owes (c : Thread nD τ) (O 0) W) ⊢ stage m K c A B O 0 := by
  unfold stage
  rw [rest_zero, done_zero, bigSep_empty]
  iintro ⟨HR, HA, HO⟩
  isplitl [HR]; · iexact HR
  isplitl [HA]; · iexact HA
  isplitr; · iempintro
  iexists W; iexact HO

theorem stage_done : stage m K c A B O 15 ⊢ iprop(bigSep Finset.univ B ∗ ∃ W, owes (c : Thread nD τ) (O 15) W) := by
  unfold stage
  rw [rest_end, done_end, bigSep_empty]
  iintro ⟨-, -, HB, HO⟩
  isplitl [HB] <;> iassumption

end Stretches

theorem slot_some (c : Dev nD) (k : Fin 15) (f : S15x16x256.Idx → Elt F .bf16) : (commPts c k f : sProp 𝕄) ⊢ iprop(∃ f, commPts c k f) := by
  iintro H; iexists f; iexact H

theorem sig_intro (K : Dev nD × Kind → ℕ) (c : Dev nD) (f : S15x16x256.Idx → Elt F .bf16) (W : Waits sig Unit) :
    iprop(records m K ∗ (bigSep Finset.univ fun j : Fin 15 => dutyTok EX (barCell (peer c j)) 0 j) ∗ commAll c f ∗ owes (c : Thread nD τ) (O₀ c) W)
      ⊢ sigSt m K c 0 := by
  unfold sigSt
  refine BIBase.Entails.trans ?_ (stage_intro K c _ _ _ W)
  unfold sigA
  rw [bigSep_sep', commAll_eq]
  iintro ⟨HR, Ht, Hc, HO⟩
  isplitl [HR]; · iexact HR
  isplitl [Ht Hc]
  · isplitl [Ht]; · iexact Ht
    iapply (show (bigSep Finset.univ fun k : Fin 15 => commPts c k f : sProp 𝕄) ⊢ bigSep Finset.univ fun k : Fin 15 => iprop(∃ f, commPts c k f) from
      bigSep_mono fun k _ => slot_some c k f)
    iexact Hc
  · unfold O₀; iexact HO

theorem sig_done (K : Dev nD × Kind → ℕ) (c : Dev nD) : sigSt m K c 15 ⊢ iprop(∃ W, owes (c : Thread nD τ) (owesRcv c 0) W) := by
  unfold sigSt
  refine (stage_done K c _ _ _).trans ?_
  rw [owesBar_end, add_zero]
  iintro ⟨-, H⟩; iexact H

theorem snd_intro (K : Dev nD × Kind → ℕ) (c : Dev nD) (W : Waits sig Unit) :
    iprop(records m K ∗ (bigSep Finset.univ fun j : Fin 15 => dutyTok EX (sndCell c j) 0 0)
        ∗ (bigSep Finset.univ fun j : Fin 15 => dutyTok EX (rcvCell (peer c j) j.rev) 0 0)
        ∗ (bigSep Finset.univ fun j : Fin 15 => accPts c (peer c j) (accBuf m c))
        ∗ (bigSep Finset.univ fun j : Fin 15 => iprop(∃ f, commPts (peer c j) j.rev f)) ∗ owes (c : Thread nD τ) (owesRcv c 0) W)
      ⊢ sndSt m K c 0 := by
  unfold sndSt
  refine BIBase.Entails.trans ?_ (stage_intro K c _ _ _ W)
  iintro ⟨HR, H1, H2, H3, H4, HO⟩
  isplitl [HR]; · iexact HR
  isplitl [H1 H2 H3 H4]
  · unfold sndA
    rw [bigSep_sep', bigSep_sep', bigSep_sep']
    isplitl [H1 H2]
    · isplitl [H1] <;> iassumption
    isplitl [H3] <;> iassumption
  · iexact HO

theorem snd_done (K : Dev nD × Kind → ℕ) (c : Dev nD) :
    sndSt m K c 15 ⊢ iprop((bigSep Finset.univ fun j : Fin 15 => cred (tallyAt (sndCell c j) () N)) ∗ ∃ W, owes (c : Thread nD τ) 0 W) := by
  unfold sndSt
  refine (stage_done K c _ _ _).trans ?_
  rw [owesRcv_end]
  exact BI.Entails.refl _

theorem rcv_intro (K : Dev nD × Kind → ℕ) (c : Dev nD) (W : Waits sig Unit) :
    iprop(records m K ∗ (bigSep Finset.univ fun k : Fin 15 => cred (tallyAt (rcvCell c k) () N))
        ∗ (bigSep Finset.univ fun k : Fin 15 => atPos EX (rcvCell c k) 0 ∅ 0) ∗ owes (c : Thread nD τ) 0 W)
      ⊢ rcvSt m K c 0 := by
  unfold rcvSt
  refine BIBase.Entails.trans ?_ (stage_intro K c _ _ _ W)
  unfold rcvA
  rw [bigSep_sep']
  iintro ⟨HR, H1, H2, HO⟩
  isplitl [HR]; · iexact HR
  isplitl [H1 H2]
  · isplitl [H1] <;> iassumption
  iexact HO

theorem rcv_done (K : Dev nD × Kind → ℕ) (c : Dev nD) :
    rcvSt m K c 15 ⊢ iprop(commAll c (commBuf m c) ∗ (bigSep Finset.univ fun k : Fin 15 => semVal (rcvCell c k) 0) ∗ ∃ W, owes (c : Thread nD τ) 0 W) := by
  unfold rcvSt
  refine (stage_done K c _ _ _).trans ?_
  unfold rcvB
  rw [bigSep_sep', commAll_eq]
  iintro ⟨⟨H1, H2⟩, HO⟩
  isplitl [H1]; · iexact H1
  isplitl [H2] <;> iassumption

theorem snt_intro (K : Dev nD × Kind → ℕ) (c : Dev nD) (W : Waits sig Unit) :
    iprop(records m K ∗ (bigSep Finset.univ fun j : Fin 15 => cred (tallyAt (sndCell c j) () N))
        ∗ (bigSep Finset.univ fun j : Fin 15 => atPos EX (sndCell c j) 0 ∅ 0) ∗ owes (c : Thread nD τ) 0 W)
      ⊢ sntSt m K c 0 := by
  unfold sntSt
  refine BIBase.Entails.trans ?_ (stage_intro K c _ _ _ W)
  unfold sntA
  rw [bigSep_sep']
  iintro ⟨HR, H1, H2, HO⟩
  isplitl [HR]; · iexact HR
  isplitl [H1 H2]
  · isplitl [H1] <;> iassumption
  iexact HO

theorem snt_done (K : Dev nD × Kind → ℕ) (c : Dev nD) :
    sntSt m K c 15 ⊢ iprop((bigSep Finset.univ fun j : Fin 15 => accPts c (peer c j) (accBuf m c)) ∗ (bigSep Finset.univ fun j : Fin 15 => semVal (sndCell c j) 0)
      ∗ ∃ W, owes (c : Thread nD τ) 0 W) := by
  unfold sntSt
  refine (stage_done K c _ _ _).trans ?_
  unfold sntB
  rw [bigSep_sep']
  iintro ⟨⟨H1, H2⟩, HO⟩
  isplitl [H1]; · iexact H1
  isplitl [H2] <;> iassumption

/-! ## The devices and blocks the program computes -/

/-- The device of each signal, of each transfer, is the peer of that number. -/
theorem sig_devs : ∀ (c : Dev nD) (j : Fin 15),
    (![k0_dev1 c, k0_dev2 c, k0_dev3 c, k0_dev4 c, k0_dev5 c, k0_dev6 c, k0_dev7 c, k0_dev8 c, k0_dev9 c, k0_dev10 c, k0_dev11 c, k0_dev12 c,
      k0_dev13 c, k0_dev14 c, k0_dev15 c] : Fin 15 → ℕ) j = (peer c j).val := by decide +kernel
theorem snd_devs : ∀ (c : Dev nD) (j : Fin 15),
    (![k0_dev16 c, k0_dev17 c, k0_dev18 c, k0_dev19 c, k0_dev20 c, k0_dev21 c, k0_dev22 c, k0_dev23 c, k0_dev24 c, k0_dev25 c, k0_dev26 c, k0_dev27 c,
      k0_dev28 c, k0_dev29 c, k0_dev30 c] : Fin 15 → ℕ) j = (peer c j).val := by decide +kernel
/-- The block of transfer `j` is its peer's; the block the device keeps is its own. -/
theorem off1_eq : ∀ (c : Dev nD) (j : Fin 15), k0_off1 c (BitVec.ofNat 32 (1 + j.val)) = ![(peer c j).val, 0, 0] := by decide +kernel
theorem off2_eq : ∀ c : Dev nD, k0_off2 c = ![c.val, 0, 0] := by decide +kernel

/-! ## Reading and writing the buffers -/

section Access
variable (c : Dev nD)

abbrev xM : Memref sig .tc .vmem S256x128 .f32 := Memref.whole cc0_stg0_0
abbrev iM : Memref sig .tc .vmem S256x1 .i32 := Memref.whole cc0_stg1_0
abbrev wM : Memref sig .tc .vmem S2x128x256 .f32 := Memref.whole cc0_stg2_0
abbrev oM : Memref sig .tc .vmem S16x256 .f32 := Memref.whole cc0_stg3_0
abbrev aM : Memref sig .tc .vmem S16x16x256 .bf16 := Memref.whole cc0_scratch0
abbrev lM : Memref sig .tc .vmem S15x16x256 .bf16 := Memref.whole cc0_scratch1
abbrev rA : Rect S16x16x256 := Rect.unit (s := S16x16x256) ![0, 0, 0] S16x16x256.size inb_S16x16x256_S16x16x256_0_0_0
abbrev rO : Rect S16x256 := Rect.unit (s := S16x256) ![0, 0] S16x256.size inb_S16x256_S16x256_0_0

theorem hz2 : (![0, 0] : Fin 2 → Nat) = fun _ => 0 := by decide
theorem hz3 : (![0, 0, 0] : Fin 3 → Nat) = fun _ => 0 := by decide

theorem read_i : (iM : Memref sig .tc .vmem S256x1 .i32).view.readAt (Elt F) (Rect.unit (s := S256x1) ![0, 0] S256x1.size inb_S256x1_S256x1_0_0).toLoadRect (istg m c) = istg m c :=
  Memref.readAt_unit_zero (Elt F) cc0_stg1_0 hz2 _ _
theorem read_x : (xM : Memref sig .tc .vmem S256x128 .f32).view.readAt (Elt F) (Rect.unit (s := S256x128) ![0, 0] S256x128.size inb_S256x128_S256x128_0_0).toLoadRect (xstg m c) = xstg m c :=
  Memref.readAt_unit_zero (Elt F) cc0_stg0_0 hz2 _ _
theorem read_w0 : (wM : Memref sig .tc .vmem S2x128x256 .f32).view.readAt (Elt F)
    (Rect.unit (s := S2x128x256) ![0, 0, 0] S1x128x256.size inb_S2x128x256_S1x128x256_0_0_0).toLoadRect (wstg m c) = w0 m c := rfl
theorem read_w1 : (wM : Memref sig .tc .vmem S2x128x256 .f32).view.readAt (Elt F)
    (Rect.unit (s := S2x128x256) ![1, 0, 0] S1x128x256.size inb_S2x128x256_S1x128x256_1_0_0).toLoadRect (wstg m c) = w1 m c := rfl
theorem read_l : (lM : Memref sig .tc .vmem S15x16x256 .bf16).view.readAt (Elt F)
    (Rect.unit (s := S15x16x256) ![0, 0, 0] S15x16x256.size inb_S15x16x256_S15x16x256_0_0_0).toLoadRect (commBuf m c) = commBuf m c :=
  Memref.readAt_unit_zero (Elt F) cc0_scratch1 hz3 _ _
theorem write_a (f w : (cc0_scratch0 : Ref sig .tc).ty.Contents (Elt F)) :
    ((aM : Memref sig .tc .vmem S16x16x256 .bf16).access rA : View sig .tc _ _ _).write (Elt F) f w Finset.univ = w :=
  Memref.write_access_unit_zero_univ (Elt F) cc0_scratch0 hz3 _ f w
theorem write_o (f w : (cc0_stg3_0 : Ref sig .tc).ty.Contents (Elt F)) :
    ((oM : Memref sig .tc .vmem S16x256 .f32).access rO : View sig .tc _ _ _).write (Elt F) f w Finset.univ = w :=
  Memref.write_access_unit_zero_univ (Elt F) cc0_stg3_0 hz2 _ f w

/-- The load of the device's own block reads inside that block, and reads what it holds. -/
theorem own_sub {off : Fin 3 → ℕ} (h : off = ![c.val, 0, 0]) (inb) :
    ((aM : Memref sig .tc .vmem S16x16x256 .bf16).access (Rect.unit (s := S16x16x256) off S1x16x256.size inb)).set ⊆ (accS c).view.set := by
  subst h
  exact ((View.set_slice_whole _ _).trans (accS_set c).symm).subset
theorem own_read {off : Fin 3 → ℕ} (h : off = ![c.val, 0, 0]) (inb) (f : S16x16x256.Idx → Elt F .bf16) :
    ((aM : Memref sig .tc .vmem S16x16x256 .bf16).access (Rect.unit (s := S16x16x256) off S1x16x256.size inb)).read (Elt F) f
      = View.ld f (Rect.unit (s := S16x16x256) off S1x16x256.size inb) := rfl
theorem own_at {off : Fin 3 → ℕ} (h : off = ![c.val, 0, 0]) (inb) :
    k0_pay8 (View.ld (accBuf m c) (Rect.unit (s := S16x16x256) off S1x16x256.size inb)) (commBuf m c) = outAt m c := by
  subst h; rfl

/-- The partial result, as stored, is the device's own block and the blocks for its peers. -/
theorem acc_ready : ((((aM : Memref sig .tc .vmem S16x16x256 .bf16).access rA).loc (c : Thread nD τ)) ↦{fullShare}
      k0_pay7 (k0_pay1 (istg m c)) (k0_pay2 (istg m c)) (k0_pay3 (xstg m c)) (k0_pay4 (w0 m c)) (k0_pay5 (w1 m c))
        (k0_pay6 (Scalar.remsi (Scalar.divsi c.word 1#32) 16#32) (istg m c))
        (Scalar.addi (Scalar.muli 2#32 (Scalar.remsi (Scalar.divsi c.word 1#32) 16#32)) 1#32) : sProp 𝕄)
    = iprop(accPts c c (accBuf m c) ∗ bigSep Finset.univ fun j : Fin 15 => accPts c (peer c j) (accBuf m c)) := accAll_eq c (accBuf m c)

end Access

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem fetch_0 (t : Fin cfg0.N) : (cfg0.win (0 : Fin 4)).fetch t = true := by rw [fin_N t]; rfl
theorem fetch_1 (t : Fin cfg0.N) : (cfg0.win (1 : Fin 4)).fetch t = true := by rw [fin_N t]; rfl
theorem fetch_2 (t : Fin cfg0.N) : (cfg0.win (2 : Fin 4)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c`, holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Kind → ℕ) (c : Dev nD) : sProp 𝕄 :=
  iprop((ghost m K c ∗ credits c ∗ levAts L lv ∗ (∃ f, accAll c f) ∗ ∃ f, commAll c f)
    ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ m c ∗ (dats m ρ 0 c).owesAt () t₀.succ
    ∗ stg c cc0_stg0_0 (xstg m c) ∗ stg c cc0_stg1_0 (istg m c) ∗ stg c cc0_stg2_0 (wstg m c) ∗ stg c cc0_stg3_0 (outAt m c))

end Cert.Exchange

end
-- ==== Proof.Sound.lean ====
/-
# The body's run on one device

The body is run effect by effect: signals, loads, the partial result stored, the wait at the barrier, transfers, the
waits for what arrives, the sum stored, the waits for what was sent.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 8000000 in
set_option maxRecDepth 65536 in
/-- The body, one rule per effect in program order. -/
theorem sound_body (K : Dev nD × Kind → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _) cc0_scratch2 cc0_scratch3) Kt := by
  rw [cc0_body_eq_skeleton]; unfold cc0_body_skel
  unfold bodyPre ghost places payToks credits
  iintro ⟨⟨⟨⟨#HR, ⟨HaB, HaS, HaV⟩, HtB, HtV, HtS⟩, ⟨HcB, HcV⟩, #Hlev, ⟨%f0, Hacc⟩, ⟨%f1, Hcomm⟩⟩,
    Ho, ⟨%d0, %g0, %hg0, Hx⟩, ⟨%d1, %g1, %hg1, Hi⟩, ⟨%d2, %g2, %hg2, Hw⟩, ⟨%d3, %g3, %hg3, Hout⟩⟩, Hk⟩
  have hx : g0 = xstg m c := by rw [hg0]; unfold Dat.before; rw [if_pos (fetch_0 t₀)]; rfl
  have hi : g1 = istg m c := by rw [hg1]; unfold Dat.before; rw [if_pos (fetch_1 t₀)]; rfl
  have hw : g2 = wstg m c := by rw [hg2]; unfold Dat.before; rw [if_pos (fetch_2 t₀)]; rfl
  subst hx hi hw
  unfold Dat.owesAt Pipeline.owesWithin
  icases Ho with ⟨%W, %hW, HO⟩
  rw [show (dats m ρ 0 c).owed t₀.castSucc = O₀ c from rfl]
  rw [wp_bind, k0_part1_eq_skeleton]; unfold k0_part1_skel
  simp only [semSignalWord, semWaitWord, Prog.lift, Prog.bind_op, Prog.bind_ret, Prog.pure_eq_ret, wp_deviceId]
  -- the fifteen signals
  ihave Hs := (sig_intro m K c f1 _) $$ [HtB Hcomm HO]
  · isplitr; · iexact HR
    isplitl [HtB]; · iexact HtB
    isplitl [Hcomm] <;> iassumption
  iapply (sig_step (n := 0) (n' := 1) 0 rfl rfl _ (Fin.ext (sig_devs c 0))) $$ Hs; iintro Hs
  iapply (sig_step (n := 1) (n' := 2) 1 rfl rfl _ (Fin.ext (sig_devs c 1))) $$ Hs; iintro Hs
  rw [wp_ret]; imodintro; try dsimp only
  rw [wp_bind, k0_part2_eq_skeleton]; unfold k0_part2_skel
  simp only [semSignalWord, semWaitWord, Prog.lift, Prog.bind_op, Prog.bind_ret, Prog.pure_eq_ret, wp_deviceId]
  iapply (sig_step (n := 2) (n' := 3) 2 rfl rfl _ (Fin.ext (sig_devs c 2))) $$ Hs; iintro Hs
  iapply (sig_step (n := 3) (n' := 4) 3 rfl rfl _ (Fin.ext (sig_devs c 3))) $$ Hs; iintro Hs
  rw [wp_ret]; imodintro; try dsimp only
  rw [wp_bind, k0_part3_eq_skeleton]; unfold k0_part3_skel
  simp only [semSignalWord, semWaitWord, Prog.lift, Prog.bind_op, Prog.bind_ret, Prog.pure_eq_ret, wp_deviceId]
  iapply (sig_step (n := 4) (n' := 5) 4 rfl rfl _ (Fin.ext (sig_devs c 4))) $$ Hs; iintro Hs
  iapply (sig_step (n := 5) (n' := 6) 5 rfl rfl _ (Fin.ext (sig_devs c 5))) $$ Hs; iintro Hs
  iapply (sig_step (n := 6) (n' := 7) 6 rfl rfl _ (Fin.ext (sig_devs c 6))) $$ Hs; iintro Hs
  rw [wp_ret]; imodintro; try dsimp only
  rw [wp_bind, k0_part4_eq_skeleton]; unfold k0_part4_skel
  simp only [semSignalWord, semWaitWord, Prog.lift, Prog.bind_op, Prog.bind_ret, Prog.pure_eq_ret, wp_deviceId]
  iapply (sig_step (n := 7) (n' := 8) 7 rfl rfl _ (Fin.ext (sig_devs c 7))) $$ Hs; iintro Hs
  iapply (sig_step (n := 8) (n' := 9) 8 rfl rfl _ (Fin.ext (sig_devs c 8))) $$ Hs; iintro Hs
  rw [wp_ret]; imodintro; try dsimp only
  rw [wp_bind, k0_part5_eq_skeleton]; unfold k0_part5_skel
  simp only [semSignalWord, semWaitWord, Prog.lift, Prog.bind_op, Prog.bind_ret, Prog.pure_eq_ret, wp_deviceId]
  iapply (sig_step (n := 9) (n' := 10) 9 rfl rfl _ (Fin.ext (sig_devs c 9))) $$ Hs; iintro Hs
  iapply (sig_step (n := 10) (n' := 11) 10 rfl rfl _ (Fin.ext (sig_devs c 10))) $$ Hs; iintro Hs
  iapply (sig_step (n := 11) (n' := 12) 11 rfl rfl _ (Fin.ext (sig_devs c 11))) $$ Hs; iintro Hs
  rw [wp_ret]; imodintro; try dsimp only
  rw [wp_bind, k0_part6_eq_skeleton]; unfold k0_part6_skel
  simp only [semSignalWord, semWaitWord, Prog.lift, Prog.bind_op, Prog.bind_ret, Prog.pure_eq_ret, wp_deviceId]
  iapply (sig_step (n := 12) (n' := 13) 12 rfl rfl _ (Fin.ext (sig_devs c 12))) $$ Hs; iintro Hs
  iapply (sig_step (n := 13) (n' := 14) 13 rfl rfl _ (Fin.ext (sig_devs c 13))) $$ Hs; iintro Hs
  rw [wp_ret]; imodintro; try dsimp only
  rw [wp_bind, k0_part7_eq_skeleton]; unfold k0_part7_skel
  simp only [semSignalWord, semWaitWord, Prog.lift, Prog.bind_op, Prog.bind_ret, Prog.pure_eq_ret, wp_deviceId]
  iapply (sig_step (n := 14) (n' := 15) 14 rfl rfl _ (Fin.ext (sig_devs c 14))) $$ Hs; iintro Hs
  iapply (wp_load 𝒱₀ (c : Thread nD τ) none Set.univ (m := iM) (Finset.subset_univ _)) $$ Hi; iintro Hi
  rw [read_i]
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  rw [read_w0]
  iapply (wp_load 𝒱₀ (c : Thread nD τ) none Set.univ (m := wM) (Finset.subset_univ _)) $$ Hw; iintro Hw
  rw [read_w1]
  rw [wp_ret]; imodintro; try dsimp only
  rw [wp_bind, k0_part8_eq_skeleton]; unfold k0_part8_skel
  simp only [semSignalWord, semWaitWord, Prog.lift, Prog.bind_op, Prog.bind_ret, Prog.pure_eq_ret, wp_deviceId]
  unfold accAll
  iapply (wp_load 𝒱₀ (c : Thread nD τ) none Set.univ (m := aM) (Finset.subset_univ _)) $$ Hacc; iintro Hacc
  iapply (wp_store 𝒱₀ (c : Thread nD τ) none Set.univ (m := aM) (r := rA) (Mk := Finset.univ) (Finset.subset_univ _)) $$ Hacc; iintro Hacc
  rw [write_a]
  -- the wait for fifteen at its barrier, owing only transfers: every peer's slot comes with it
  ihave Hd := (sig_done m K c) $$ Hs
  icases Hd with ⟨%W1, HO⟩
  iapply (Rounds.wp_wait_rest_token 𝒱₀ EX (plan m) (c : Thread nD τ) none (κ := K (c, kBar))
      (wpE_semWait_eq 𝒱₀ (c : Thread nD τ) none Set.univ) (Set.mem_univ _) () (O := owesRcv c 0) (W := W1) (R := 0) (m := 0) (T := ∅)
      (by rw [expect_bar]; decide)) $$ [HcB HO HaB]
  · isplitr; · iapply (inv_at m K c kBar); iexact HR
    isplitl [HcB]; · iexact HcB
    isplitl [HO]; · iexact HO
    isplitr; · iapply (mayWait_bar c 0); iexact Hlev
    iexact HaB
  iintro ⟨HO, HaB, -, Hp⟩
  ihave Hslot := (Entails.of_eq (rest_bar m c)) $$ Hp
  imod (Rounds.cell_close EX (plan m) (Set.mem_univ (K (c, kBar))) (fun h => h) (R := 0 + 1) (duties_later m (barCell c))) $$ [HaB] with HzB
  · isplitr; · iapply (inv_at m K c kBar); iexact HR
    iexact HaB
  rw [wp_ret]; imodintro; try dsimp only
  rw [wp_bind, k0_part9_eq_skeleton]; unfold k0_part9_skel
  simp only [semSignalWord, semWaitWord, Prog.lift, Prog.bind_op, Prog.bind_ret, Prog.pure_eq_ret, wp_deviceId]
  -- the fifteen transfers: a block for each peer, and each peer's slot, which came with the barrier
  ihave Ha := (Entails.of_eq (acc_ready m c)) $$ Hacc
  icases Ha with ⟨Hown, Hblk⟩
  ihave Hs := (snd_intro m K c _) $$ [HtS HtV Hblk Hslot HO]
  · isplitr; · iexact HR
    isplitl [HtS]; · iexact HtS
    isplitl [HtV]; · iexact HtV
    isplitl [Hblk]; · iexact Hblk
    isplitl [Hslot] <;> iassumption
  iapply (snd_step (n := 0) (n' := 1) 0 rfl rfl _ (Fin.ext (snd_devs c 0)) (accS_of _ (off1_eq c 0) _ _) rfl rfl rfl) $$ Hs; iintro Hs
  iapply (snd_step (n := 1) (n' := 2) 1 rfl rfl _ (Fin.ext (snd_devs c 1)) (accS_of _ (off1_eq c 1) _ _) rfl rfl rfl) $$ Hs; iintro Hs
  rw [wp_ret]; imodintro; try dsimp only
  rw [wp_bind, k0_part10_eq_skeleton]; unfold k0_part10_skel
  simp only [semSignalWord, semWaitWord, Prog.lift, Prog.bind_op, Prog.bind_ret, Prog.pure_eq_ret, wp_deviceId]
  iapply (snd_step (n := 2) (n' := 3) 2 rfl rfl _ (Fin.ext (snd_devs c 2)) (accS_of _ (off1_eq c 2) _ _) rfl rfl rfl) $$ Hs; iintro Hs
  rw [wp_ret]; imodintro; try dsimp only
  rw [wp_bind, k0_part11_eq_skeleton]; unfold k0_part11_skel
  simp only [semSignalWord, semWaitWord, Prog.lift, Prog.bind_op, Prog.bind_ret, Prog.pure_eq_ret, wp_deviceId]
  iapply (snd_step (n := 3) (n' := 4) 3 rfl rfl _ (Fin.ext (snd_devs c 3)) (accS_of _ (off1_eq c 3) _ _) rfl rfl rfl) $$ Hs; iintro Hs
  iapply (snd_step (n := 4) (n' := 5) 4 rfl rfl _ (Fin.ext (snd_devs c 4)) (accS_of _ (off1_eq c 4) _ _) rfl rfl rfl) $$ Hs; iintro Hs
  rw [wp_ret]; imodintro; try dsimp only
  rw [wp_bind, k0_part12_eq_skeleton]; unfold k0_part12_skel
  simp only [semSignalWord, semWaitWord, Prog.lift, Prog.bind_op, Prog.bind_ret, Prog.pure_eq_ret, wp_deviceId]
  iapply (snd_step (n := 5) (n' := 6) 5 rfl rfl _ (Fin.ext (snd_devs c 5)) (accS_of _ (off1_eq c 5) _ _) rfl rfl rfl) $$ Hs; iintro Hs
  iapply (snd_step (n := 6) (n' := 7) 6 rfl rfl _ (Fin.ext (snd_devs c 6)) (accS_of _ (off1_eq c 6) _ _) rfl rfl rfl) $$ Hs; iintro Hs
  rw [wp_ret]; imodintro; try dsimp only
  rw [wp_bind, k0_part13_eq_skeleton]; unfold k0_part13_skel
  simp only [semSignalWord, semWaitWord, Prog.lift, Prog.bind_op, Prog.bind_ret, Prog.pure_eq_ret, wp_deviceId]
  iapply (snd_step (n := 7) (n' := 8) 7 rfl rfl _ (Fin.ext (snd_devs c 7)) (accS_of _ (off1_eq c 7) _ _) rfl rfl rfl) $$ Hs; iintro Hs
  rw [wp_ret]; imodintro; try dsimp only
  rw [wp_bind, k0_part14_eq_skeleton]; unfold k0_part14_skel
  simp only [semSignalWord, semWaitWord, Prog.lift, Prog.bind_op, Prog.bind_ret, Prog.pure_eq_ret, wp_deviceId]
  iapply (snd_step (n := 8) (n' := 9) 8 rfl rfl _ (Fin.ext (snd_devs c 8)) (accS_of _ (off1_eq c 8) _ _) rfl rfl rfl) $$ Hs; iintro Hs
  iapply (snd_step (n := 9) (n' := 10) 9 rfl rfl _ (Fin.ext (snd_devs c 9)) (accS_of _ (off1_eq c 9) _ _) rfl rfl rfl) $$ Hs; iintro Hs
  rw [wp_ret]; imodintro; try dsimp only
  rw [wp_bind, k0_part15_eq_skeleton]; unfold k0_part15_skel
  simp only [semSignalWord, semWaitWord, Prog.lift, Prog.bind_op, Prog.bind_ret, Prog.pure_eq_ret, wp_deviceId]
  iapply (snd_step (n := 10) (n' := 11) 10 rfl rfl _ (Fin.ext (snd_devs c 10)) (accS_of _ (off1_eq c 10) _ _) rfl rfl rfl) $$ Hs; iintro Hs
  rw [wp_ret]; imodintro; try dsimp only
  rw [wp_bind, k0_part16_eq_skeleton]; unfold k0_part16_skel
  simp only [semSignalWord, semWaitWord, Prog.lift, Prog.bind_op, Prog.bind_ret, Prog.pure_eq_ret, wp_deviceId]
  iapply (snd_step (n := 11) (n' := 12) 11 rfl rfl _ (Fin.ext (snd_devs c 11)) (accS_of _ (off1_eq c 11) _ _) rfl rfl rfl) $$ Hs; iintro Hs
  iapply (snd_step (n := 12) (n' := 13) 12 rfl rfl _ (Fin.ext (snd_devs c 12)) (accS_of _ (off1_eq c 12) _ _) rfl rfl rfl) $$ Hs; iintro Hs
  rw [wp_ret]; imodintro; try dsimp only
  rw [wp_bind, k0_part17_eq_skeleton]; unfold k0_part17_skel
  simp only [semSignalWord, semWaitWord, Prog.lift, Prog.bind_op, Prog.bind_ret, Prog.pure_eq_ret, wp_deviceId]
  iapply (snd_step (n := 13) (n' := 14) 13 rfl rfl _ (Fin.ext (snd_devs c 13)) (accS_of _ (off1_eq c 13) _ _) rfl rfl rfl) $$ Hs; iintro Hs
  iapply (snd_step (n := 14) (n' := 15) 14 rfl rfl _ (Fin.ext (snd_devs c 14)) (accS_of _ (off1_eq c 14) _ _) rfl rfl rfl) $$ Hs; iintro Hs
  rw [wp_ret]; imodintro; try dsimp only
  rw [wp_bind, k0_part18_eq_skeleton]; unfold k0_part18_skel
  simp only [semSignalWord, semWaitWord, Prog.lift, Prog.bind_op, Prog.bind_ret, Prog.pure_eq_ret, wp_deviceId]
  -- the fifteen slots
  ihave Hd := (snd_done m K c) $$ Hs
  icases Hd with ⟨HcS, %W2, HO⟩
  ihave Hs := (rcv_intro m K c _) $$ [HcV HaV HO]
  · isplitr; · iexact HR
    isplitl [HcV]; · iexact HcV
    isplitl [HaV] <;> iassumption
  iapply (rcv_step (n := 0) (n' := 1) 0 rfl rfl rfl rfl) $$ Hs; iintro Hs
  iapply (rcv_step (n := 1) (n' := 2) 1 rfl rfl rfl rfl) $$ Hs; iintro Hs
  iapply (rcv_step (n := 2) (n' := 3) 2 rfl rfl rfl rfl) $$ Hs; iintro Hs
  rw [wp_ret]; imodintro; try dsimp only
  rw [wp_bind, k0_part19_eq_skeleton]; unfold k0_part19_skel
  simp only [semSignalWord, semWaitWord, Prog.lift, Prog.bind_op, Prog.bind_ret, Prog.pure_eq_ret, wp_deviceId]
  iapply (rcv_step (n := 3) (n' := 4) 3 rfl rfl rfl rfl) $$ Hs; iintro Hs
  iapply (rcv_step (n := 4) (n' := 5) 4 rfl rfl rfl rfl) $$ Hs; iintro Hs
  iapply (rcv_step (n := 5) (n' := 6) 5 rfl rfl rfl rfl) $$ Hs; iintro Hs
  rw [wp_ret]; imodintro; try dsimp only
  rw [wp_bind, k0_part20_eq_skeleton]; unfold k0_part20_skel
  simp only [semSignalWord, semWaitWord, Prog.lift, Prog.bind_op, Prog.bind_ret, Prog.pure_eq_ret, wp_deviceId]
  iapply (rcv_step (n := 6) (n' := 7) 6 rfl rfl rfl rfl) $$ Hs; iintro Hs
  iapply (rcv_step (n := 7) (n' := 8) 7 rfl rfl rfl rfl) $$ Hs; iintro Hs
  iapply (rcv_step (n := 8) (n' := 9) 8 rfl rfl rfl rfl) $$ Hs; iintro Hs
  rw [wp_ret]; imodintro; try dsimp only
  rw [wp_bind, k0_part21_eq_skeleton]; unfold k0_part21_skel
  simp only [semSignalWord, semWaitWord, Prog.lift, Prog.bind_op, Prog.bind_ret, Prog.pure_eq_ret, wp_deviceId]
  iapply (rcv_step (n := 9) (n' := 10) 9 rfl rfl rfl rfl) $$ Hs; iintro Hs
  iapply (rcv_step (n := 10) (n' := 11) 10 rfl rfl rfl rfl) $$ Hs; iintro Hs
  iapply (rcv_step (n := 11) (n' := 12) 11 rfl rfl rfl rfl) $$ Hs; iintro Hs
  rw [wp_ret]; imodintro; try dsimp only
  rw [wp_bind, k0_part22_eq_skeleton]; unfold k0_part22_skel
  simp only [semSignalWord, semWaitWord, Prog.lift, Prog.bind_op, Prog.bind_ret, Prog.pure_eq_ret, wp_deviceId]
  iapply (rcv_step (n := 12) (n' := 13) 12 rfl rfl rfl rfl) $$ Hs; iintro Hs
  iapply (rcv_step (n := 13) (n' := 14) 13 rfl rfl rfl rfl) $$ Hs; iintro Hs
  iapply (rcv_step (n := 14) (n' := 15) 14 rfl rfl rfl rfl) $$ Hs; iintro Hs
  rw [wp_ret]; imodintro; try dsimp only
  rw [wp_bind, k0_part23_eq_skeleton]; unfold k0_part23_skel
  simp only [semSignalWord, semWaitWord, Prog.lift, Prog.bind_op, Prog.bind_ret, Prog.pure_eq_ret, wp_deviceId]
  ihave Hd := (rcv_done m K c) $$ Hs
  icases Hd with ⟨Hcomm, HzV, %W3, HO⟩
  unfold accPts
  iapply (wp_load_rect 𝒱₀ (c : Thread nD τ) none Set.univ (m := aM) (r := Rect.unit (s := S16x16x256) (k0_off2 c) S1x16x256.size (k0_off2_inb c))
      (own_sub c (off := k0_off2 c) (off2_eq c) (k0_off2_inb c))) $$ Hown; iintro Hown
  rw [own_read c (off := k0_off2 c) (off2_eq c) (k0_off2_inb c)]
  unfold commAll
  iapply (wp_load 𝒱₀ (c : Thread nD τ) none Set.univ (m := lM) (Finset.subset_univ _)) $$ Hcomm; iintro Hcomm
  rw [read_l]
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_o]
  -- the fifteen blocks sent
  ihave Hs := (snt_intro m K c _) $$ [HcS HaS HO]
  · isplitr; · iexact HR
    isplitl [HcS]; · iexact HcS
    isplitl [HaS] <;> iassumption
  iapply (snt_step (n := 0) (n' := 1) 0 rfl rfl (accS_of _ (off1_eq c 0) _ _) rfl) $$ Hs; iintro Hs
  iapply (snt_step (n := 1) (n' := 2) 1 rfl rfl (accS_of _ (off1_eq c 1) _ _) rfl) $$ Hs; iintro Hs
  rw [wp_ret]; imodintro; try dsimp only
  rw [wp_bind, k0_part24_eq_skeleton]; unfold k0_part24_skel
  simp only [semSignalWord, semWaitWord, Prog.lift, Prog.bind_op, Prog.bind_ret, Prog.pure_eq_ret, wp_deviceId]
  iapply (snt_step (n := 2) (n' := 3) 2 rfl rfl (accS_of _ (off1_eq c 2) _ _) rfl) $$ Hs; iintro Hs
  iapply (snt_step (n := 3) (n' := 4) 3 rfl rfl (accS_of _ (off1_eq c 3) _ _) rfl) $$ Hs; iintro Hs
  iapply (snt_step (n := 4) (n' := 5) 4 rfl rfl (accS_of _ (off1_eq c 4) _ _) rfl) $$ Hs; iintro Hs
  iapply (snt_step (n := 5) (n' := 6) 5 rfl rfl (accS_of _ (off1_eq c 5) _ _) rfl) $$ Hs; iintro Hs
  rw [wp_ret]; imodintro; try dsimp only
  rw [wp_bind, k0_part25_eq_skeleton]; unfold k0_part25_skel
  simp only [semSignalWord, semWaitWord, Prog.lift, Prog.bind_op, Prog.bind_ret, Prog.pure_eq_ret, wp_deviceId]
  iapply (snt_step (n := 6) (n' := 7) 6 rfl rfl (accS_of _ (off1_eq c 6) _ _) rfl) $$ Hs; iintro Hs
  iapply (snt_step (n := 7) (n' := 8) 7 rfl rfl (accS_of _ (off1_eq c 7) _ _) rfl) $$ Hs; iintro Hs
  iapply (snt_step (n := 8) (n' := 9) 8 rfl rfl (accS_of _ (off1_eq c 8) _ _) rfl) $$ Hs; iintro Hs
  iapply (snt_step (n := 9) (n' := 10) 9 rfl rfl (accS_of _ (off1_eq c 9) _ _) rfl) $$ Hs; iintro Hs
  rw [wp_ret]; imodintro; try dsimp only
  rw [wp_bind, k0_part26_eq_skeleton]; unfold k0_part26_skel
  simp only [semSignalWord, semWaitWord, Prog.lift, Prog.bind_op, Prog.bind_ret, Prog.pure_eq_ret, wp_deviceId]
  iapply (snt_step (n := 10) (n' := 11) 10 rfl rfl (accS_of _ (off1_eq c 10) _ _) rfl) $$ Hs; iintro Hs
  iapply (snt_step (n := 11) (n' := 12) 11 rfl rfl (accS_of _ (off1_eq c 11) _ _) rfl) $$ Hs; iintro Hs
  iapply (snt_step (n := 12) (n' := 13) 12 rfl rfl (accS_of _ (off1_eq c 12) _ _) rfl) $$ Hs; iintro Hs
  iapply (snt_step (n := 13) (n' := 14) 13 rfl rfl (accS_of _ (off1_eq c 13) _ _) rfl) $$ Hs; iintro Hs
  rw [wp_ret]; imodintro; try dsimp only
  iapply (snt_step (n := 14) (n' := 15) 14 rfl rfl (accS_of _ (off1_eq c 14) _ _) rfl) $$ Hs; iintro Hs
  rw [wp_ret]; imodintro
  -- what is left is what the device ends with
  ihave Hd := (snt_done m K c) $$ Hs
  icases Hd with ⟨Hblk, HzS, %W4, HO⟩
  rw [own_at m c (off2_eq c)]
  iapply Hk
  unfold bodyPost Φ₁ Dat.owesAt Pipeline.owesWithin
  rw [show (dats m ρ 0 c).owed t₀.succ = 0 from rfl]
  isplitl [Hown Hblk Hcomm HzS HzV HzB]
  · isplitl [Hown Hblk Hcomm]
    · isplitl [Hown Hblk]
      · rw [accAll_eq]
        isplitl [Hown]; · unfold accPts; iexact Hown
        iexact Hblk
      unfold commAll; iexact Hcomm
    isplitl [HzS]; · iexact HzS
    isplitl [HzV] <;> iassumption
  isplitl [HO]
  · iexists W4
    isplitr; · ipureintro; exact fun _ _ => Or.inl trivial
    iexact HO
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists _; isplitr; · (ipureintro; rfl)
  iexact Hout

def bodyPre' (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

set_option maxRecDepth 65536 in
/-- The launch library's obligation for the body, on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hc, Hl⟩, Ha, Hm⟩, Ho, Hst⟩
  iapply (sound_body m ρ K c fun _ => bodyPost m ρ c)
  unfold bodyPre
  isplitr []
  · isplitl [Hg Hc Hl Ha Hm]
    · isplitl [Hg]; · iexact Hg
      isplitl [Hc]; · iexact Hc
      isplitl [Hl]; · iexact Hl
      isplitl [Ha] <;> iassumption
    isplitl [Ho] <;> iassumption
  · iintro H; iexact H

end Cert.Exchange

end
-- ==== Proof.Launch.lean ====
/-
# The launch

What every device is given at launch, how it is dealt into the rounds of the exchange, and the run of the whole program.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## Cells and duties -/

def xchgCells : Finset (GSem nD τ sig) := Finset.univ.map ⟨fun ck : Dev nD × Kind => cell ck.1 ck.2, cell_inj⟩

/-- The duties of a device's own cells: fifteen at its barrier, one at each send and receive semaphore. -/
abbrev Duty : Type := Fin 15 ⊕ (Fin 15 ⊕ Fin 15)
def tokOf (x : Dev nD × Duty) : GSem nD τ sig × ℕ × Fin 15 := match x.2 with
  | .inl j => (barCell x.1, 0, j)
  | .inr (.inl j) => (sndCell x.1 j, 0, 0)
  | .inr (.inr k) => (rcvCell x.1 k, 0, 0)
/-- Which duty a cell and a number name. -/
def dutyOf (x : GSem nD τ sig × ℕ × Fin 15) : Option (Dev nD × Duty) := match cls x.1.2 with
  | some (.inl _) => some (x.1.1.1, .inl x.2.2)
  | some (.inr (.inl j)) => some (x.1.1.1, .inr (.inl j))
  | some (.inr (.inr k)) => some (x.1.1.1, .inr (.inr k))
  | none => none
theorem dutyOf_tokOf (x : Dev nD × Duty) : dutyOf (tokOf x) = some x := by
  obtain ⟨c, j | j | k⟩ := x
  · dsimp only [tokOf, dutyOf]; rw [cls_bar]
  · dsimp only [tokOf, dutyOf]; rw [cls_snd]
  · dsimp only [tokOf, dutyOf]; rw [cls_rcv]
theorem tokOf_inj : Function.Injective tokOf := fun a b h => Option.some.inj (by rw [← dutyOf_tokOf a, ← dutyOf_tokOf b, h])
def xchgToks : Finset (GSem nD τ sig × ℕ × Fin 15) := Finset.univ.map ⟨tokOf, tokOf_inj⟩

def u₀ : UU :=
  (initOf (Pipeline.cells cfgs cellOf_inj) (Pipeline.launchToks cfgs cellOf_inj), initOf xchgCells xchgToks)

/-- The duty tokens of device `c`'s own cells. -/
def toks (c : Dev nD) : sProp 𝕄 :=
  iprop((bigSep Finset.univ fun j : Fin 15 => dutyTok EX (barCell c) 0 j) ∗ (bigSep Finset.univ fun j : Fin 15 => dutyTok EX (sndCell c j) 0 0)
    ∗ bigSep Finset.univ fun k : Fin 15 => dutyTok EX (rcvCell c k) 0 0)

/-- What a device is dealt at launch, -/
def G (c : Dev nD) : sProp 𝕄 :=
  iprop((bigSep Finset.univ fun k : Kind => roundState EX (plan m) (cell c k) 0)
    ∗ (bigSep Finset.univ fun k : Kind => iprop(atPos EX (cell c k) 0 ∅ 0 ∗ reached EX (cell c k) 0)) ∗ toks c)
/-- and what it holds once every cell's invariant stands. -/
def G' (c : Dev nD) : sProp 𝕄 := iprop(∃ K, ghost m K c)

theorem fund_xchg : BI.own (EX (initOf xchgCells xchgToks)) ⊢ (|==> bigSep Finset.univ (G m) : sProp 𝕄) := by
  have hX (Φ : GSem nD τ sig → sProp 𝕄) : bigSep xchgCells Φ = bigSep Finset.univ fun c : Dev nD => bigSep Finset.univ fun k : Kind => Φ (cell c k) := by
    unfold xchgCells; rw [bigSep_map, BI.bigSep_univ_prod]; rfl
  have hT : bigSep xchgToks (fun x => (dutyTok EX x.1 x.2.1 x.2.2 : sProp 𝕄)) = bigSep Finset.univ fun c : Dev nD => toks c := by
    unfold xchgToks; rw [bigSep_map, BI.bigSep_univ_prod]
    exact bigSep_congr fun c _ => by unfold toks; rw [BI.bigSep_univ_sum, BI.bigSep_univ_sum]; rfl
  iintro HX
  imod (Rounds.fund EX (plan m) xchgCells xchgToks) $$ HX with ⟨Hst, Hr, Hat, Htok⟩
  imodintro
  ihave Hst' := (Entails.of_eq (hX fun g => roundState EX (plan m) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem bigSep_kind (Φ : Kind → sProp 𝕄) : bigSep Finset.univ Φ
    = iprop(Φ kBar ∗ (bigSep Finset.univ fun j : Fin 15 => Φ (kSnd j)) ∗ bigSep Finset.univ fun k : Fin 15 => Φ (kRcv k)) := by
  rw [BI.bigSep_univ_sum, BI.bigSep_univ_sum]
  rw [show (bigSep Finset.univ fun a : Unit => Φ (Sum.inl a) : sProp 𝕄) = Φ kBar from bigSep_singleton]
  rfl

/-- The send and receive semaphores are the kernel's own; -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 15 => semVal (sndCell c j) 0) ∗ bigSep Finset.univ fun k : Fin 15 => semVal (rcvCell c k) 0) := by
  unfold Pipeline.ownSems0; rw [BI.bigSep_univ_sum]; rfl
/-- the barrier semaphore is the only one that outlives it. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Kind => semVal (cell c k) 0 : sProp 𝕄) := by
  rw [ownSems0_eq, unscopedSems0_eq, bigSep_kind]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EX (plan m) κ (cell c k)))
          ∗ (bigSep Finset.univ fun k => iprop(atPos EX (cell c k) 0 ∅ 0 ∗ reached EX (cell c k) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Kind => semVal (cell c k) 0) ∗ bigSep Finset.univ fun k : Kind => roundState EX (plan m) (cell c k) 0)
      ⊢ (|={Set.univ}=> bigSep Finset.univ fun k => iprop(∃ κ : ℕ, cellInv EX (plan m) κ (cell c k)) : sProp 𝕄) from by
        rw [← bigSep_sep']
        exact (bigSep_mono fun k _ => (Rounds.body_intro EX (plan m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt around: duty `j` of a barrier to the device whose peer number `j` it is, a receive semaphore's to the
    device that sends there. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    BI.bigSep_univ_comm (fun (c : Dev nD) (j : Fin 15) => (dutyTok EX (barCell c) 0 j : sProp 𝕄)),
    BI.bigSep_univ_comm (fun (c : Dev nD) (k : Fin 15) => (dutyTok EX (rcvCell c k) 0 0 : sProp 𝕄)),
    BI.bigSep_univ_comm (fun (c : Dev nD) (j : Fin 15) => (dutyTok EX (barCell (peer c j)) 0 j : sProp 𝕄)),
    BI.bigSep_univ_comm (fun (c : Dev nD) (j : Fin 15) => (dutyTok EX (rcvCell (peer c j) j.rev) 0 0 : sProp 𝕄)),
    BI.bigSep_univ_equiv Fin.revPerm (fun k : Fin 15 => bigSep Finset.univ fun c : Dev nD => (dutyTok EX (rcvCell c k) 0 0 : sProp 𝕄)),
    bigSep_congr (s := Finset.univ) (fun (j : Fin 15) _ => BI.bigSep_univ_equiv (turn j) (fun c : Dev nD => (dutyTok EX (barCell c) 0 j : sProp 𝕄))),
    bigSep_congr (s := Finset.univ) (fun (j : Fin 15) _ => BI.bigSep_univ_equiv (turn j) (fun c : Dev nD => (dutyTok EX (rcvCell c (Fin.revPerm j)) 0 0 : sProp 𝕄)))]
  iintro ⟨H1, H2, H3⟩
  isplitl [H1]; · iexact H1
  isplitl [H3]; · iexact H3
  iexact H2

theorem with_records {I : Type} [DecidableEq I] {S : Finset I} {R : sProp (MT nD τ sig Unit (Elt F) ℕ UU ℕ)} [BI.Persistent R]
    {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Kind → ℕ) (c : Dev nD) :
    iprop(records m K ∗ iprop((bigSep Finset.univ fun k : Kind => atPos EX (cell c k) 0 ∅ 0) ∗ payToks c)) ⊢ G' m c := by
  rw [bigSep_kind]
  unfold G' ghost places
  iintro ⟨HR, Ha, Ht⟩
  iexists K
  isplitl [HR]; · iexact HR
  isplitl [Ha]; · iexact Ha
  iexact Ht

theorem regroup :
    (bigSep Finset.univ fun c : Dev nD => iprop((bigSep Finset.univ fun k => iprop(∃ κ : ℕ, cellInv EX (plan m) κ (cell c k)))
          ∗ (bigSep Finset.univ fun k => iprop(atPos EX (cell c k) 0 ∅ 0 ∗ reached EX (cell c k) 0)) ∗ toks c) : sProp 𝕄)
      ⊢ bigSep Finset.univ (G' m) := by
  rw [bigSep_sep', bigSep_sep', ← BI.bigSep_univ_prod (fun ck : Dev nD × Kind => iprop(∃ κ : ℕ, cellInv EX (plan m) κ (cell ck.1 ck.2))),
    bigSep_congr (s := Finset.univ) (fun (c : Dev nD) _ => bigSep_sep' Finset.univ (fun k : Kind => (atPos EX (cell c k) 0 ∅ 0 : sProp 𝕄)) (fun k => reached EX (cell c k) 0)),
    bigSep_sep', ← BI.bigSep_univ_prod (fun ck : Dev nD × Kind => (reached EX (cell ck.1 ck.2) 0 : sProp 𝕄))]
  iintro ⟨HI, ⟨Hat, #HR⟩, Htok⟩
  ihave HK := (BI.bigSep_exists_pi Finset.univ (fun (ck : Dev nD × Kind) (κ : ℕ) => (cellInv EX (plan m) κ (cell ck.1 ck.2) : sProp 𝕄))) $$ HI
  icases HK with ⟨%K, #HI⟩
  ihave Htk := (toks_around (F := F)) $$ Htok
  iapply (with_records (R := records m K) fun c _ => ghost_intro m K c)
  isplitr
  · unfold records; isplitl; · iexact HI
    iexact HR
  · iapply (Entails.of_eq (bigSep_sep' Finset.univ (fun c : Dev nD => bigSep Finset.univ fun k : Kind => (atPos EX (cell c k) 0 ∅ 0 : sProp 𝕄)) payToks).symm)
    isplitl [Hat]; · iexact Hat
    iexact Htk

/-- Every device's semaphores go under invariants at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits of the launch -/

theorem bar_eq_iff {d c : Dev nD} {j : Fin 15} : Iff (barCell c = barCell (peer d j)) (d = peer c j.rev) :=
  ⟨fun h => by
    have h1 : c = peer d j := congrArg (fun g : GSem nD τ sig => g.1.1) h
    rw [h1, peer_rev], fun h => by rw [h, peer_rev']⟩
theorem rcv_eq_iff {d c : Dev nD} {j k : Fin 15} : Iff (rcvCell c k = rcvCell (peer d j) j.rev) (j = k.rev ∧ d = peer c k) :=
  ⟨fun h => by
    have h1 : c = peer d j := congrArg (fun g : GSem nD τ sig => g.1.1) h
    have h2 : k = j.rev := by
      have := congrArg (fun g : GSem nD τ sig => cls g.2) h
      simp only [cls_rcv] at this
      exact Sum.inr.inj (Sum.inr.inj (Option.some.inj this))
    rw [h1, h2, Fin.rev_rev, peer_rev]; exact ⟨rfl, rfl⟩, fun ⟨h1, h2⟩ => by rw [h1, h2, Fin.rev_rev, peer_rev]⟩

/-- All devices together owe a barrier fifteen units -/
theorem launch_bar (c : Dev nD) :
    tallyOn (barCell c) (launchCredit (Pipeline.owing fun d => owesBar d 0) 0 (barCell c)) = (tallyAt (barCell c) () 15 : CellTallies nD τ sig Unit) := by
  unfold tallyAt; refine congrArg _ (Finsupp.ext fun u => ?_); cases u
  rw [Pipeline.launchCredit_owing, Finsupp.single_eq_same]
  have h (d : Dev nD) : owesBar d 0 (barCell c) () = ∑ j : Fin 15, if d = peer c j.rev then 1 else 0 := by
    unfold owesBar
    rw [rest_zero, Finset.sum_apply, Finsupp.finset_sum_apply]
    refine Finset.sum_congr rfl fun j _ => ?_
    rw [tallyAt_apply]
    exact if_congr (by rw [bar_eq_iff]; exact and_iff_left rfl) rfl rfl
  rw [Finset.sum_congr rfl fun d _ => h d, Finset.sum_comm, Finset.sum_congr rfl fun j _ => Finset.sum_ite_eq' Finset.univ (peer c j.rev) fun _ => 1]
  simp only [Finset.mem_univ, if_true]; decide
/-- and a receive semaphore one block's credit. -/
theorem launch_rcv (c : Dev nD) (k : Fin 15) :
    tallyOn (rcvCell c k) (launchCredit (Pipeline.owing fun d => owesRcv d 0) 0 (rcvCell c k)) = (tallyAt (rcvCell c k) () N : CellTallies nD τ sig Unit) := by
  unfold tallyAt; refine congrArg _ (Finsupp.ext fun u => ?_); cases u
  rw [Pipeline.launchCredit_owing, Finsupp.single_eq_same]
  have h (d : Dev nD) : owesRcv d 0 (rcvCell c k) () = if d = peer c k then N else 0 := by
    unfold owesRcv
    rw [rest_zero, Finset.sum_apply, Finsupp.finset_sum_apply]
    rw [Finset.sum_eq_single k.rev (fun j _ hj => by rw [tallyAt_apply]; exact if_neg fun h => hj (rcv_eq_iff.mp h.1).1) (fun h => absurd (Finset.mem_univ _) h)]
    rw [tallyAt_apply]
    exact if_congr ((and_iff_left rfl).trans (rcv_eq_iff.trans (and_iff_right rfl))) rfl rfl
  rw [Finset.sum_congr rfl fun d _ => h d, Finset.sum_ite_eq' Finset.univ (peer c k) fun _ => N, if_pos (Finset.mem_univ _)]

theorem creds (c : Dev nD) : (Pipeline.launchCred O₀ c : sProp 𝕄) ⊢ credits c := by
  have e : (Pipeline.launchCred O₀ c : sProp 𝕄) = iprop(Pipeline.launchCred (fun d => owesRcv d 0) c ∗ Pipeline.launchCred (fun d => owesBar d 0) c) :=
    Pipeline.launchCred_add _ _ c
  rw [e]
  unfold credits
  iintro ⟨HR, HB⟩
  isplitl [HB]
  · rw [← launch_bar]
    iapply (Pipeline.launchCred_elim (fun d => owesBar d 0) c (SemLoc.reg barS)); iexact HB
  · iapply (show (Pipeline.launchCred (fun d => owesRcv d 0) c : sProp 𝕄) ⊢ bigSep Finset.univ fun k : Fin 15 => cred (tallyAt (rcvCell c k) () N) from by
      rw [bigSep_congr fun k _ => by rw [← launch_rcv c k]]
      unfold Pipeline.launchCred
      refine (bigSep_subset (Finset.subset_univ (Finset.univ.map ⟨fun k : Fin 15 => (SemLoc.dma (rcvS k) : SemLoc sig), fun a b h => Sum.inr.inj (Sum.inr.inj (csem_inj (a₁ := kRcv a) (a₂ := kRcv b) h))⟩))).trans ?_
      rw [bigSep_map]
      exact BI.Entails.refl _)
    iexact HR

/-! ## The side conditions -/

/-- The array the kernel does not touch. -/
def idle (c : Dev nD) : sProp 𝕄 := iprop(((c : Thread nD τ).loc main_arg1) ↦{fullShare} m ((c : Thread nD τ).loc main_arg1))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ idle m c) := by
  rw [Pipeline.unscopedRestP_none, unscopedRest0_eq]
  iintro ⟨Hi, Hlev, Hcr, -, HG⟩
  ihave Hc := (creds (F := F) c) $$ Hcr
  imodintro
  unfold start G' idle
  isplitr [Hi]
  · isplitl [HG]; · iexact HG
    isplitl [Hc] <;> iassumption
  · iexact Hi

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Ha, Hc⟩
  isplitl [Hs]; · iexact Hs
  isplitl [Ha]
  · unfold accAll; iexact Ha
  unfold commAll; iexact Hc

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ accAll commAll
  iintro ⟨⟨Ha, Hc⟩, HzS, HzV, HzB⟩
  isplitl [HzB]; · iexact HzB
  isplitl [HzS HzV]
  · isplitl [HzS] <;> iassumption
  isplitl [Ha]
  · iexists (accBuf m c); iexact Ha
  iexists (commBuf m c); iexact Hc

theorem waits (c : Dev nD) : (levAts L lv : sProp 𝕄) ⊢ Pipeline.cellsWaits cfgs (dats m ρ) () 0 c :=
  Pipeline.cellsWaits_intro cfgs (dats m ρ) () 0 c fun w s t =>
    mayWait_stage c _ (by revert c; fin_cases w <;> fin_cases s <;> decide) _ (by
      rcases t with ⟨_ | _, ht⟩
      · exact Or.inl rfl
      · exact Or.inr rfl)

/-- At the end the untouched array is as launched, and every semaphore that outlives the kernel is at zero. -/
def endsAt (c : Dev nD) (s : MemSt nD τ sig (Elt F)) : Prop :=
  s.mem ((c : Thread nD τ).loc main_arg1) = m ((c : Thread nD τ).loc main_arg1)
    ∧ ∀ sm : SemLoc sig, sm.isScoped .tc = false → s.sem ((c.tc : Thread nD τ), sm) = 0

theorem ends (c : Dev nD) (s' : Phys nD τ sig (Elt F)) :
    iprop(unscopedSems0 c ∗ idle m c ∗ SI s') ⊢ |={Set.univ}=> (iprop(⌜endsAt m c s'.mem⌝ ∗ SI s') : sProp 𝕄) := by
  unfold idle
  iintro ⟨Hu, Hi, HSI⟩
  icombine HSI Hi gives %h
  imod (Pipeline.unscopedSems0_read (X := unscopedSems0 c) (c := c) fupd_intro s') $$ [Hu HSI] with ⟨%hs, HSI⟩
  · isplitl [Hu] <;> iassumption
  imodintro
  isplitr
  · ipureintro; exact ⟨Buf.eq_of_forall_mem_univ h, hs⟩
  iexact HSI

end Cert.Exchange

end
-- ==== Proof.Run.lean ====
/-
# The run of the kernel

Every execution of the sixteen devices' program ends; each result array then holds the computed block, the arguments
are as they were and every semaphore is at zero.
-/
module

public import proofs.«01_k».proof.Proof.Sound
public import proofs.«01_k».proof.Proof.Launch
public import Idealize.ShloMosaic.Lib.Quiescent

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What window `w`'s array on device `c` holds in the end. -/
def finalA (c : Dev nD) (w : Fin cfg0.W) : Buf (Elt F) ((cfg0.win w).arr.view.loc (c : Thread nD τ)) := (dats m ρ 0 c).arrAt w cfg0.N

/-- The end of a run: the windows' arrays at their final contents, the array outside every window as launched. -/
def Ends : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
/-- For any float values, from any memory with zero counters, every fair execution of the sixteen devices ends, in `Ends`
    and with every semaphore at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_xchg m) $$ HX with HG
      imodintro
      isplitl [HP] <;> iassumption)
    (hglob := glob m)
    (hA := fun _ _ => rfl) (hpf := fun _ k => k.elim0)
    (X := start m) (Y := fun c => unscopedSems0 c) (Z := idle m)
    (hX := start_intro m ρ) (hin := phi0_intro m ρ) (hout := phi1_exit m ρ)
    (QY := endsAt m) (hY := ends m)
    (hQ := fun _ h hs => ⟨fun c => ⟨fun w => (h c).1 w, (h c).2.2.1⟩, sem_eq_zero hs fun c => (h c).2.2.2⟩)

/-- The arrays the kernel only reads hold what they held. -/
theorem finalA_x (c : Dev nD) : finalA m ρ c (0 : Fin 4) = m (win0_0.arr.view.loc (c : Thread nD τ)) :=
  (dats (F := F) m ρ 0 c).arrAt_in (0 : Fin 4) rfl _
theorem finalA_i (c : Dev nD) : finalA m ρ c (1 : Fin 4) = m (win0_1.arr.view.loc (c : Thread nD τ)) :=
  (dats (F := F) m ρ 0 c).arrAt_in (1 : Fin 4) rfl _
theorem finalA_w (c : Dev nD) : finalA m ρ c (2 : Fin 4) = m (win0_2.arr.view.loc (c : Thread nD τ)) :=
  (dats (F := F) m ρ 0 c).arrAt_in (2 : Fin 4) rfl _

/-- The arguments after a run are as launched. -/
theorem args_kept {r : PUnit × MemSt nD τ sig (Elt F)} (h : Ends m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 (0 : Fin 4)).trans (finalA_x m ρ c), (h c).2, ((h c).1 (1 : Fin 4)).trans (finalA_i m ρ c), ((h c).1 (2 : Fin 4)).trans (finalA_w m ρ c)⟩

end Cert.Exchange

end
-- ==== Proof.Frames.lean ====
/-
# The three programs run, keep their arguments, and leave every semaphore at zero
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Exchange

open Idealize.ShloMosaic Idealize.SL.Sem

section
variable {F : FTy → Type} [FloatOps F]

/-- At any float values: the arguments as launched, every semaphore at zero. -/
theorem frame (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => args_kept m ρ h.1 c, h.2⟩) (run_main m ρ)

end

section
attribute [local instance] Cert.Kernel.Gen.facts Cert.KernelIdeal.Gen.facts

set_option maxRecDepth 65536 in
/-- The two programs have one body. -/
theorem body_same : @Cert.Kernel.cc0_body Bits _ _ = @Cert.KernelIdeal.cc0_body Bits _ _ := rfl

/-- So they have one table of bodies, -/
theorem defs₀_same : @Cert.Kernel.defs₀ Bits _ _ = @Cert.KernelIdeal.defs₀ Bits _ _ := by
  unfold Cert.Kernel.defs₀ Cert.KernelIdeal.defs₀
  refine congrArg Defs.onTc (funext fun l => funext fun a => ?_)
  revert a
  refine Fin.cases ?_ (fun i => i.elim0) l
  rintro ⟨t, s⟩
  have h := body_same
  exact congrFun (congrFun (congrFun (congrFun (congrFun (congrFun (congrFun (congrFun (congrFun (congrFun (congrFun (congrFun (congrFun (congrFun h _) _) _) _) _) _) _) _) _) _) _) _) _) _

/-- and one table of functions. -/
theorem defs_same : @Cert.Kernel.defs Bits _ _ = @Cert.KernelIdeal.defs Bits _ _ :=
  congrArg (Pipeline.defs (Cert.Kernel.pcfgs (F := Bits))) defs₀_same

end

/-- The kernel over floats: the same program. -/
theorem frame_kernel : Cert.quiescent_Kernel (hKernel := Cert.Kernel.Gen.facts) := by
  intro m ρ _
  rw [defs_same]
  exact frame (F := Bits) m ρ

/-- The kernel over the extended reals. -/
theorem frame_ideal : Cert.quiescent_KernelIdeal (hKernelIdeal := Cert.KernelIdeal.Gen.facts) := fun m ρ _ => frame (F := Ideal) m ρ

/-- The reference over the extended reals. -/
theorem frame_reference : Cert.quiescent_ReferenceIdeal (hReferenceIdeal := Cert.ReferenceIdeal.Gen.facts) := fun m ρ _ =>
  (θ_run Cert.ReferenceIdeal.defs _ _).mono (fun _ h => ⟨fun c => (h c).2, sem_eq_zero_of_no_sems rfl _⟩)
    (Cert.ReferenceIdeal.Value.run (F := Ideal) m ρ)

end Cert.Exchange

end
-- ==== Proof.Spec.lean ====
/-
# The result, entry by entry

The result at token `t` and column `o`: the token's row times its expert's matrix, where the token names an expert and
fewer than six earlier tokens name the same one, and zero elsewhere.
-/
module

public import Mathlib.Data.EReal.Operations
public import Mathlib.Algebra.BigOperators.Fin

@[expose] public section

noncomputable section

namespace Cert.Routed

/-- How many tokens before `t` name the expert that `t` names. -/
def earlier (e : Fin 256 → BitVec 32) (t : Fin 256) : ℕ := (Finset.univ.filter fun s : Fin 256 => s.val < t.val ∧ e s = e t).card

/-- Token `t` is served: it names one of the 32 experts, and fewer than six tokens before it name the same one. -/
def Served (e : Fin 256 → BitVec 32) (t : Fin 256) : Prop := (e t).toNat < 32 ∧ earlier e t < 6

open Classical in
/-- The result at `(t, o)`: the row of `x` times the matrix of the token's expert if the token is served, else zero. -/
def spec (x : Fin 256 → Fin 128 → EReal) (e : Fin 256 → BitVec 32) (W : Fin 32 → Fin 128 → Fin 256 → EReal) (t o : Fin 256) : EReal :=
  if h : Served e t then ∑ k : Fin 128, x t k * W ⟨(e t).toNat, h.1⟩ k o else 0

/-- The count is at most the number of tokens. -/
theorem earlier_le (e : Fin 256 → BitVec 32) (t : Fin 256) : earlier e t ≤ 256 :=
  (Finset.card_le_univ _).trans (by simp)

open Classical in
/-- What device `d`, which holds the matrices `2d` and `2d + 1`, adds to the result at `(t, o)`: the whole entry if token
    `t` is served and names one of the two, else zero. -/
def share (x : Fin 256 → Fin 128 → EReal) (e : Fin 256 → BitVec 32) (W : Fin 32 → Fin 128 → Fin 256 → EReal) (d : Fin 16)
    (t o : Fin 256) : EReal :=
  if h : Served e t ∧ (e t).toNat / 2 = d.val then ∑ k : Fin 128, x t k * W ⟨(e t).toNat, h.1.1⟩ k o else 0

/-- The sixteen devices' shares add up to the result: one device holds the token's matrix. -/
theorem sum_share (x : Fin 256 → Fin 128 → EReal) (e : Fin 256 → BitVec 32) (W : Fin 32 → Fin 128 → Fin 256 → EReal) (t o : Fin 256) :
    ∑ d : Fin 16, share x e W d t o = spec x e W t o := by
  unfold spec
  by_cases h : Served e t
  · have hd : (e t).toNat / 2 < 16 := by have := h.1; omega
    rw [dif_pos h, Finset.sum_eq_single (⟨(e t).toNat / 2, hd⟩ : Fin 16)]
    · exact dif_pos ⟨h, rfl⟩
    · exact fun d _ hne => dif_neg fun h' => hne (Fin.ext h'.2.symm)
    · exact fun h' => absurd (Finset.mem_univ _) h'
  · rw [dif_neg h]
    exact Finset.sum_eq_zero fun d _ => dif_neg fun h' => h h'.1

/-- Up to and with token `t`, one more token names its expert than before it. -/
theorem upto_eq (e : Fin 256 → BitVec 32) (t : Fin 256) :
    (Finset.univ.filter fun s : Fin 256 => s.val ≤ t.val ∧ e s = e t).card = earlier e t + 1 := by
  have h : (Finset.univ.filter fun s : Fin 256 => s.val ≤ t.val ∧ e s = e t)
      = insert t (Finset.univ.filter fun s : Fin 256 => s.val < t.val ∧ e s = e t) := by
    ext s
    simp only [Finset.mem_filter, Finset.mem_univ, true_and, Finset.mem_insert]
    constructor
    · rintro ⟨h1, h2⟩
      rcases Nat.lt_or_ge s.val t.val with h | h
      · exact .inr ⟨h, h2⟩
      · exact .inl (Fin.ext (by omega))
    · rintro (rfl | ⟨h1, h2⟩)
      · exact ⟨le_refl _, rfl⟩
      · exact ⟨h1.le, h2⟩
  rw [h, Finset.card_insert_of_notMem (by simp)]
  rfl

end Cert.Routed

end
-- ==== Proof.Block.lean ====
/-
# What one device computes

The device's partial result for all tokens: at token `t` and column `o` it is the device's share of the result. The
capacity test counts, by products of indicators, the tokens up to `t` that name `t`'s expert.
-/
module

public import proofs.«01_k».proof.Proof.Gen.KernelIdeal.Skeleton
public import proofs.«01_k».proof.Proof.Spec
public import Idealize.ShloMosaic.Lib.Pointwise
public import Idealize.ShloMosaic.Lib.WordCmp
public import Idealize.ShloMosaic.Lib.Affine

@[expose] public section

noncomputable section

namespace Cert.Routed

open Cert.KernelIdeal Cert.KernelIdeal.Gen Idealize.ShloMosaic

/-- A bit, widened and read as a number, is one or zero. -/
theorem bit_number (c : BitVec 1) : (FloatOps.sitofp FTy.f32 (BitVec.setWidth 32 c) : Ideal FTy.f32) = if c = 1#1 then 1 else 0 := by
  show ((((BitVec.setWidth 32 c).toInt : ℤ) : ℝ) : EReal) = _
  rcases BitVec.eq_zero_or_eq_one c with h | h <;> subst h <;> simp

/-- The bound of the capacity test, as a number. -/
theorem six : Ideal.ofBits FTy.f32 0x40C00000#32 = ((6 : ℕ) : EReal) := by
  have h : Ideal.ofBits FTy.f32 0x40C00000#32 = ((6 : ℝ) : EReal) := by
    simp [Ideal.ofBits, Ideal.ieee]
    norm_num
    rw [← EReal.coe_mul]
    norm_num
  rw [h]
  rfl

/-- A word below 32 equals one of the 32 words of `0 … 31` exactly at its own number. -/
theorem eq_word {w : BitVec 32} (h : w.toNat < 32) (j : Fin 32) : w = BitVec.ofNat 32 j.val ↔ j = ⟨w.toNat, h⟩ := by
  constructor
  · rintro rfl
    apply Fin.ext
    show j.val = (BitVec.ofNat 32 j.val).toNat
    rw [WordCmp.toNat_ofNat_of_lt (by omega)]
  · rintro rfl
    rw [BitVec.ofNat_toNat, BitVec.setWidth_eq]

set_option maxRecDepth 16384 in
/-- For a token that names an expert the capacity test passes exactly if fewer than six earlier tokens name it. -/
theorem pay2_apply (e : IVec S256x1 32) (t : Fin 256) (h : (e (ix2 t 0)).toNat < 32) :
    k0_pay2 (F := Ideal) e (ix2 t 0) = 1#1 ↔ earlier (fun t => e (ix2 t 0)) t < 6 := by
  pointwise [k0_pay2, k0_pay1]
  simp only [bit_number, IntOp.cmpi_eq]
  rw [Finset.sum_eq_single (⟨(e (ix2 t 0)).toNat, h⟩ : Fin 32)
    (fun j _ hj => by rw [if_neg (fun h' => hj ((eq_word h j).1 h')), zero_mul]) (fun h' => absurd (Finset.mem_univ _) h'),
    if_pos ((eq_word h _).2 rfl), one_mul]
  have hsum : (∑ s : Fin 256, (if IntOp.cmpi .sge (BitVec.ofNat 32 t.val) (BitVec.ofNat 32 s.val) = 1#1 then (1 : EReal) else 0)
      * (if e (ix2 s 0) = BitVec.ofNat 32 (e (ix2 t 0)).toNat then 1 else 0)) = ((earlier (fun t => e (ix2 t 0)) t + 1 : ℕ) : EReal) := by
    rw [← upto_eq, Finset.card_filter, Nat.cast_sum]
    refine Finset.sum_congr rfl fun s _ => ?_
    have hs := s.isLt
    have ht := t.isLt
    simp only [WordCmp.cmpi_sge_ofNat_eq_one_iff (w := 32) (a := t.val) (b := s.val) (by omega) (by omega), BitVec.ofNat_toNat, BitVec.setWidth_eq]
    by_cases h1 : s.val ≤ t.val <;> by_cases h2 : e (ix2 s 0) = e (ix2 t 0) <;> simp [h1, h2]
  rw [hsum, six, WordCmp.ofBool_decide_eq_one_iff, Nat.cast_le]
  omega

set_option maxRecDepth 16384 in
/-- The mask of the device's first expert. -/
theorem pay6_apply (v : BitVec 32) (e : IVec S256x1 32) (t : Fin 256) :
    k0_pay6 (F := Ideal) v e (ix2 t 0)
      = Scalar.select (IntOp.andi (k0_pay2 (F := Ideal) e (ix2 t 0)) (IntOp.cmpi .eq (e (ix2 t 0)) (Scalar.muli 2#32 v))) (1 : EReal) 0 := by
  pointwise [k0_pay6, k0_pay1]

/-- For the two words of device `d`'s experts, the device's test passes exactly if the token is served and names that expert. -/
theorem mask_bit (e : IVec S256x1 32) (t : Fin 256) (w : BitVec 32) (n : Fin 32) (hw : w = BitVec.ofNat 32 n.val) :
    IntOp.andi (k0_pay2 (F := Ideal) e (ix2 t 0)) (IntOp.cmpi .eq (e (ix2 t 0)) w) = 1#1
      ↔ Served (fun t => e (ix2 t 0)) t ∧ (e (ix2 t 0)).toNat = n.val := by
  rw [IntOp.andi_eq_one, IntOp.cmpi_eq]
  have hn := n.isLt
  constructor
  · rintro ⟨h1, h2⟩
    have h3 : (e (ix2 t 0)).toNat = n.val := by rw [h2, hw, WordCmp.toNat_ofNat_of_lt (by omega)]
    have h4 : (e (ix2 t 0)).toNat < 32 := by omega
    exact ⟨⟨h4, (pay2_apply e t h4).1 h1⟩, h3⟩
  · rintro ⟨⟨h4, h5⟩, h3⟩
    refine ⟨(pay2_apply e t h4).2 h5, ?_⟩
    rw [hw, ← h3, BitVec.ofNat_toNat, BitVec.setWidth_eq]

/-- A sum whose terms are all kept or all dropped by one bit. -/
theorem sum_select {n : ℕ} (c : BitVec 1) (f : Fin n → EReal) : ∑ k, Scalar.select c (f k) 0 = if c = 1#1 then ∑ k, f k else 0 := by
  rcases BitVec.eq_zero_or_eq_one c with h | h <;> subst h
  · rw [if_neg (by decide)]
    exact Finset.sum_eq_zero fun _ _ => rfl
  · rw [if_pos rfl]
    rfl

set_option maxRecDepth 16384 in
/-- The partial result of the device whose number the word `v` holds, at row `r` of row block `p` and column `o`: its share
    for token `16 p + r`. -/
theorem partial_apply (x : FVec Ideal S256x128 .f32) (e : IVec S256x1 32) (A B : FVec Ideal S1x128x256 .f32) (v : BitVec 32)
    (d : Fin 16) (hv : v = BitVec.ofNat 32 d.val) (W : Fin 32 → Fin 128 → Fin 256 → EReal)
    (hA : ∀ k o, A (ix3 0 k o) = W ⟨2 * d.val, by omega⟩ k o) (hB : ∀ k o, B (ix3 0 k o) = W ⟨2 * d.val + 1, by omega⟩ k o)
    (p r : Fin 16) (o : Fin 256) :
    k0_pay7 (F := Ideal) (k0_pay1 (F := Ideal) e) (k0_pay2 (F := Ideal) e) (k0_pay3 x) (k0_pay4 A) (k0_pay5 B) (k0_pay6 v e)
        (Scalar.addi (Scalar.muli 2#32 v) 1#32) (ix3 p r o)
      = share (fun t k => x (ix2 t k)) (fun t => e (ix2 t 0)) W d ⟨p.val * 16 + r.val, by omega⟩ o := by
  pointwise [k0_pay7, k0_pay1, k0_pay3, k0_pay4, k0_pay5, pay6_apply]
  simp only [hA, hB]
  suffices H : ∀ t : Fin 256, ((∑ k : Fin 128, Scalar.select (IntOp.andi (k0_pay2 (F := Ideal) e (ix2 t 0)) (IntOp.cmpi .eq (e (ix2 t 0)) (Scalar.muli 2#32 v)))
        (x (ix2 t k) * W ⟨2 * d.val, by omega⟩ k o) 0)
      + ∑ k : Fin 128, Scalar.select (IntOp.andi (k0_pay2 (F := Ideal) e (ix2 t 0)) (IntOp.cmpi .eq (e (ix2 t 0)) (Scalar.addi (Scalar.muli 2#32 v) 1#32)))
        (x (ix2 t k) * W ⟨2 * d.val + 1, by omega⟩ k o) 0 : EReal)
      = share (fun t k => x (ix2 t k)) (fun t => e (ix2 t 0)) W d t o from H ⟨p.val * 16 + r.val, by omega⟩
  intro t
  rw [sum_select, sum_select]
  have h0 := mask_bit e t (Scalar.muli 2#32 v) ⟨2 * d.val, by omega⟩ (by
    rw [hv]; exact (BitVec.ofNat_mul 2 d.val).symm)
  have h1 := mask_bit e t (Scalar.addi (Scalar.muli 2#32 v) 1#32) ⟨2 * d.val + 1, by omega⟩ (by
    rw [hv]; exact ((BitVec.ofNat_add (2 * d.val) 1).trans (congrArg (· + 1#32) (BitVec.ofNat_mul 2 d.val))).symm)
  classical
  rw [if_congr h0 rfl rfl, if_congr h1 rfl rfl]
  unfold share
  by_cases hs : Served (fun t => e (ix2 t 0)) t
  · by_cases e0 : (e (ix2 t 0)).toNat = 2 * d.val
    · rw [if_pos ⟨hs, e0⟩, if_neg (fun h => by have h2 : (e (ix2 t 0)).toNat = 2 * d.val + 1 := h.2; omega), add_zero, dif_pos ⟨hs, by show (e (ix2 t 0)).toNat / 2 = _; omega⟩]
      exact Finset.sum_congr rfl fun k _ => congrArg (fun n => x (ix2 t k) * W n k o) (Fin.ext e0.symm)
    · by_cases e1 : (e (ix2 t 0)).toNat = 2 * d.val + 1
      · rw [if_neg (fun h => e0 h.2), if_pos ⟨hs, e1⟩, zero_add, dif_pos ⟨hs, by show (e (ix2 t 0)).toNat / 2 = _; omega⟩]
        exact Finset.sum_congr rfl fun k _ => congrArg (fun n => x (ix2 t k) * W n k o) (Fin.ext e1.symm)
      · rw [if_neg (fun h => e0 h.2), if_neg (fun h => e1 h.2), add_zero, dif_neg]
        rintro ⟨-, h2⟩
        have h3 : (e (ix2 t 0)).toNat / 2 = d.val := h2
        omega
  · rw [if_neg (fun h => hs h.1), if_neg (fun h => hs h.1), add_zero, dif_neg (fun h => hs h.1)]

/-- A device's result block: its own block plus the sum of the fifteen that arrived. -/
theorem total_apply (own : Vec Ideal S1x16x256 .bf16) (arrived : Vec Ideal S15x16x256 .bf16) (r : Fin 16) (o : Fin 256) :
    k0_pay8 (F := Ideal) own arrived (ix2 r o) = own (ix3 0 r o) + ∑ k : Fin 15, arrived (ix3 k r o) := by
  pointwise [k0_pay8]

end Cert.Routed

end
-- ==== Proof.Ref.lean ====
/-
# What the reference computes

The reference's program gathers every token's matrix, multiplies, and keeps the served tokens' rows: its result at
token `t` and column `o` is `spec`'s.
-/
module

public import proofs.«01_k».proof.Proof.Gen.ReferenceIdeal
public import proofs.«01_k».proof.Proof.Spec
public import Idealize.ShloMosaic.Lib.Pointwise
public import Idealize.ShloMosaic.Lib.IndicatorCount
public import Idealize.ShloMosaic.Lib.WordCmp
public import Idealize.ShloMosaic.Lib.Affine

@[expose] public section

noncomputable section

namespace Cert.Routed

open Cert.ReferenceIdeal Cert.ReferenceIdeal.Gen Idealize.ShloMosaic

/-- The gather of the tokens' matrices, at one entry: the matrix at the token's index, clamped into the 32. -/
theorem gather_at (W : S32x128x256.Idx → EReal) (idx : IVec S256x1 32) (t : Fin 256) (k : Fin 128) (o : Fin 256) :
    Host.gather gather_S32x128x256_S256x1_S256x128x256_12_0_n_n_0_1_1128256 W idx (ix3 t k o)
      = W (ix3 ⟨min (idx (ix2 t 0)).toInt.toNat 31, by omega⟩ k o) := by
  unfold Host.gather
  refine congrArg W (funext fun a => Fin.ext ?_)
  match a with
  | ⟨0, _⟩ =>
    show GatherDims.start _ _ idx 0 + GatherDims.batchCoord _ _ 0 + GatherDims.offCoord _ _ 0 = _
    rw [GatherDims.batchCoord_eq_zero _ _ _ List.not_mem_nil, GatherDims.offCoord_eq_zero _ _ _ (by decide)]
    unfold GatherDims.start
    rw [dif_pos (by decide)]
    have hsi : GatherDims.siIdx gather_S32x128x256_S256x1_S256x128x256_12_0_n_n_0_1_1128256 (ix3 t k o) ⟨List.idxOf (0 : Fin 3) [0], by decide⟩ = ix2 t 0 := by
      funext b; refine Fin.ext ?_
      match b with
      | ⟨0, _⟩ => rfl
      | ⟨1, _⟩ => rfl
    exact congrArg (fun i => min (idx i).toInt.toNat 31) hsi
  | ⟨1, _⟩ =>
    show GatherDims.start _ _ idx 1 + GatherDims.batchCoord _ _ 1 + GatherDims.offCoord _ _ 1 = k.val
    rw [GatherDims.batchCoord_eq_zero _ _ _ List.not_mem_nil]
    unfold GatherDims.start GatherDims.offCoord
    rw [dif_neg (by decide), dif_pos (by decide), Nat.zero_add]
    rfl
  | ⟨2, _⟩ =>
    show GatherDims.start _ _ idx 2 + GatherDims.batchCoord _ _ 2 + GatherDims.offCoord _ _ 2 = o.val
    rw [GatherDims.batchCoord_eq_zero _ _ _ List.not_mem_nil]
    unfold GatherDims.start GatherDims.offCoord
    rw [dif_neg (by decide), dif_pos (by decide), Nat.zero_add]
    rfl

/-- The reference's result, as its program composes it. -/
def refVal (x : FVec Ideal S256x128 .f32) (e : IVec S256x1 32) (W : FVec Ideal S32x128x256 .f32) : FVec Ideal S256x256 .f32 :=
  select (broadcastInDim S256x256 ![0, 1] bcast_S256x1_S256x256_0_1 (broadcastInDim S256x1 ![0] bcast_S256_S256x1_0 (andi (andi (cmpi .slt (Host.reduce IntOp.addi (extui 32 (andi (cmpi .slt (broadcastInDim S256x256 ![0, 1] bcast_S1x256_S256x256_0_1 (broadcastInDim S1x256 ![1] bcast_S256_S1x256_1 (iotaInDim S256 32 0))) (broadcastInDim S256x256 ![0, 1] bcast_S256x1_S256x256_0_1 (broadcastInDim S256x1 ![0] bcast_S256_S256x1_0 (iotaInDim S256 32 0)))) (cmpi .eq (broadcastInDim S256x256 ![0, 1] bcast_S1x256_S256x256_0_1 (broadcastInDim S1x256 ![1] bcast_S256_S1x256_1 (shapeCast _ e shapeCasts_S256x1_S256))) (broadcastInDim S256x256 ![0, 1] bcast_S256x1_S256x256_0_1 (broadcastInDim S256x1 ![0] bcast_S256_S256x1_0 (shapeCast _ e shapeCasts_S256x1_S256))))) natLt_1_32) (constantI S_ 32 0#32) reducesTo_S256x256_S256_d1 h_S_) (broadcastInDim S256 ![] bcast_S_S256 (constantI S_ 32 6#32))) (cmpi .sge (shapeCast _ e shapeCasts_S256x1_S256) (broadcastInDim S256 ![] bcast_S_S256 (constantI S_ 32 0#32)))) (cmpi .slt (shapeCast _ e shapeCasts_S256x1_S256) (broadcastInDim S256 ![] bcast_S_S256 (constantI S_ 32 32#32)))))) (Host.dotGeneral dot_S256x128_S256x128x256_S256x256_1_1_n_2_0_0 none x (Host.gather gather_S32x128x256_S256x1_S256x128x256_12_0_n_n_0_1_1128256 W (broadcastInDim S256x1 ![0] bcast_S256_S256x1_0 (select (cmpi .slt (shapeCast _ e shapeCasts_S256x1_S256) (broadcastInDim S256 ![] bcast_S_S256 (constantI S_ 32 0#32))) (addi (shapeCast _ e shapeCasts_S256x1_S256) (broadcastInDim S256 ![] bcast_S_S256 (constantI S_ 32 32#32))) (shapeCast _ e shapeCasts_S256x1_S256))))) (broadcastInDim S256x256 ![] bcast_S_S256x256 (id (constant S_ .f32 0x00000000#32)))

/-- Adding up the bits of an indicator gives the word of its count. -/
theorem count_word (e : IVec S256x1 32) (t : Fin 256) :
    (Finset.univ.fold IntOp.addi (0#32) fun s : Fin 256 => BitVec.setWidth 32
      (IntOp.andi (IntOp.cmpi .slt (BitVec.ofNat 32 s.val) (BitVec.ofNat 32 t.val)) (IntOp.cmpi .eq (e (ix2 s 0)) (e (ix2 t 0)))))
      = BitVec.ofNat 32 (earlier (fun t => e (ix2 t 0)) t) := by
  rw [IndicatorCount.fold_addi_setWidth_eq_card]
  refine congrArg (BitVec.ofNat 32) (congrArg Finset.card (Finset.filter_congr fun s _ => ?_))
  have hs := s.isLt
  have ht := t.isLt
  rw [IntOp.andi_eq_one, IntOp.cmpi_eq, WordCmp.cmpi_slt_ofNat_eq_one_iff (by omega) (by omega)]

/-- The bit by which the reference keeps a token is set exactly if the token is served. -/
theorem served_bit (e : Fin 256 → BitVec 32) (t : Fin 256) :
    IntOp.andi (IntOp.andi (IntOp.cmpi .slt (BitVec.ofNat 32 (earlier e t)) 6#32) (IntOp.cmpi .sge (e t) 0#32))
      (IntOp.cmpi .slt (e t) 32#32) = 1#1 ↔ Served e t := by
  have h := earlier_le e t
  rw [IntOp.andi_eq_one, IntOp.andi_eq_one, IntOp.cmpi_sge, IntOp.cmpi_slt, IntOp.cmpi_slt, WordCmp.toInt_ofNat_of_lt (by omega)]
  unfold Served
  generalize earlier e t = n
  generalize e t = w
  have h6 : (6#32).toInt = 6 := rfl
  have h0 : (0#32).toInt = 0 := rfl
  have h32 : (32#32).toInt = 32 := rfl
  have hw := w.isLt
  rw [h6, h0, h32, BitVec.toInt_eq_toNat_cond]
  split <;> omega

set_option maxRecDepth 16384 in
/-- The reference's result at `(t, o)` is the specification's. -/
theorem refVal_apply (x : FVec Ideal S256x128 .f32) (e : IVec S256x1 32) (W : FVec Ideal S32x128x256 .f32) (t o : Fin 256) :
    refVal x e W (ix2 t o) = spec (fun t k => x (ix2 t k)) (fun t => e (ix2 t 0)) (fun d k o => W (ix3 d k o)) t o := by
  pointwise [refVal, gather_at]
  rw [count_word]
  have hb := served_bit (fun t => e (ix2 t 0)) t
  unfold spec
  by_cases h : Served (fun t => e (ix2 t 0)) t
  · rw [WordCmp.select_of_eq_one (hb.2 h), dif_pos h]
    refine Finset.sum_congr rfl fun k _ => congrArg (x (ix2 t k) * ·) (congrArg W (congrArg (fun d => ix3 d k o) (Fin.ext ?_)))
    have h1 : (e (ix2 t 0)).toNat < 32 := h.1
    have h2 : (e (ix2 t 0)).toInt = ((e (ix2 t 0)).toNat : Int) := WordCmp.toInt_eq_toNat_of_lt_half (by omega)
    have h3 : ¬ IntOp.cmpi .slt (e (ix2 t 0)) 0#32 = 1#1 := by
      rw [IntOp.cmpi_slt, h2]
      have h0 : (0#32).toInt = 0 := rfl
      omega
    show min (Scalar.select (IntOp.cmpi .slt (e (ix2 t 0)) 0#32) _ (e (ix2 t 0)) : BitVec 32).toInt.toNat 31 = (e (ix2 t 0)).toNat
    rw [WordCmp.select_of_eq_zero ((BitVec.eq_zero_or_eq_one _).resolve_right h3), h2]
    omega
  · rw [dif_neg h, WordCmp.select_of_eq_zero ((BitVec.eq_zero_or_eq_one _).resolve_right fun h' => h (hb.1 h'))]
    exact Ideal.ofBits_zero_f32

end Cert.Routed

end
-- ==== Proof.Result.lean ====
/-
# The result arrays, and the two programs' agreement

Every device's share at every token, the sum a device forms of its own block and the fifteen it receives, the array
that leaves it with, and the statement that the sixteen arrays are the blocks of the reference's result.
-/
module

public import proofs.«01_k».proof.Defs
public import proofs.«01_k».proof.Proof.Run
public import proofs.«01_k».proof.Proof.Block
public import proofs.«01_k».proof.Proof.Ref
public import proofs.«01_k».proof.Proof.Gen.ReferenceIdeal.Run
public import Idealize.ShloMosaic.Lib.Pipeline.ValueKit
public import Idealize.ShloMosaic.Lib.Layout

@[expose] public section

noncomputable section

namespace Cert.Routed

open Cert.Exchange Cert.KernelIdeal Cert.KernelIdeal.Gen Idealize.ShloMosaic Idealize.ShloMosaic.TcCoe

variable (m : (ℓ : Loc nD τ sig) → Buf (Elt Ideal) ℓ) (ρ : Dev nD → PrngReg)

/-! ## What a device stages -/

/-- A block at the origin, read without gaps, is read at its own index. -/
theorem at_zero (s n : ℕ) : 0 * s + 1 * n = n := by omega

/-- A slice from the axis's start, read without gaps, is read at its own index. -/
theorem from_zero (n : ℕ) : 0 + 1 * n = n := by omega

/-- The staged tokens are the argument's. -/
theorem xstg_apply (c : Dev nD) (t : Fin 256) (k : Fin 128) : xstg m c (ix2 t k) = m ((c : Thread nD τ).loc main_arg0) (ix2 t k) := by
  unfold xstg
  refine congrArg (m ((c : Thread nD τ).loc main_arg0)) (funext fun a => Fin.ext ?_)
  match a with
  | ⟨0, _⟩ => exact at_zero 256 t.val
  | ⟨1, _⟩ => exact at_zero 128 k.val

/-- The staged expert numbers are the argument's. -/
theorem istg_apply (c : Dev nD) (t : Fin 256) : istg m c (ix2 t 0) = m ((c : Thread nD τ).loc main_arg2) (ix2 t 0) := by
  unfold istg
  refine congrArg (m ((c : Thread nD τ).loc main_arg2)) (funext fun a => Fin.ext ?_)
  match a with
  | ⟨0, _⟩ => exact at_zero 256 t.val
  | ⟨1, _⟩ => exact at_zero 1 (0 : Fin 1).val

/-- The staged matrices are the argument's. -/
theorem wstg_apply (c : Dev nD) (d : Fin 2) (k : Fin 128) (o : Fin 256) :
    wstg m c (ix3 d k o) = m ((c : Thread nD τ).loc main_arg3) (ix3 d k o) := by
  unfold wstg
  refine congrArg (m ((c : Thread nD τ).loc main_arg3)) (funext fun a => Fin.ext ?_)
  match a with
  | ⟨0, _⟩ => exact at_zero 2 d.val
  | ⟨1, _⟩ => exact at_zero 128 k.val
  | ⟨2, _⟩ => exact at_zero 256 o.val

/-- The first matrix loaded. -/
theorem w0_apply (c : Dev nD) (k : Fin 128) (o : Fin 256) : w0 m c (ix3 0 k o) = m ((c : Thread nD τ).loc main_arg3) (ix3 0 k o) := by
  rw [← wstg_apply m c]
  unfold w0
  refine congrArg (wstg m c) (funext fun a => Fin.ext ?_)
  match a with
  | ⟨0, _⟩ => exact from_zero 0
  | ⟨1, _⟩ => exact from_zero k.val
  | ⟨2, _⟩ => exact from_zero o.val

/-- The second matrix loaded. -/
theorem w1_apply (c : Dev nD) (k : Fin 128) (o : Fin 256) : w1 m c (ix3 0 k o) = m ((c : Thread nD τ).loc main_arg3) (ix3 1 k o) := by
  rw [← wstg_apply m c]
  unfold w1
  refine congrArg (wstg m c) (funext fun a => Fin.ext ?_)
  match a with
  | ⟨0, _⟩ => rfl
  | ⟨1, _⟩ => exact from_zero k.val
  | ⟨2, _⟩ => exact from_zero o.val

/-- The word a device computes for itself is its number. -/
theorem myWord_eq (c : Dev nD) : myWord c = BitVec.ofNat 32 c.val := by revert c; decide

/-! ## The partial results and their sum -/

section
variable (x : FVec Ideal S256x128 .f32) (e : IVec S256x1 32) (W : FVec Ideal ⟨3, ![32, 128, 256]⟩ .f32)

/-- The specification's arguments, from arrays. -/
def specOf (t o : Fin 256) : EReal := spec (fun t k => x (ix2 t k)) (fun t => e (ix2 t 0)) (fun d k o => W (ix3 d k o)) t o

/-- Every device holds all tokens and expert numbers, and its own two of the 32 matrices. -/
def Given : Prop := ∀ c : Dev nD, m ((c : Thread nD τ).loc main_arg0) = x ∧ m ((c : Thread nD τ).loc main_arg2) = e
  ∧ m ((c : Thread nD τ).loc main_arg3) = Layout.block ⟨3, ![2, 128, 256]⟩ ⟨3, ![32, 128, 256]⟩ 0 16 c W

variable {m x e W} (hg : Given m x e W)
include hg

/-- The matrices of device `c`, among the 32. -/
theorem block_matrix (c : Dev nD) (j : Fin 2) (k : Fin 128) (o : Fin 256) :
    m ((c : Thread nD τ).loc main_arg3) (ix3 j k o) = W (ix3 ⟨c.val * 2 + j.val, by have := c.isLt; have := j.isLt; change c.val < 16 at *; omega⟩ k o) := by
  rw [(hg c).2.2]
  refine congrArg W (funext fun a => Fin.ext ?_)
  match a with
  | ⟨0, _⟩ => rfl
  | ⟨1, _⟩ => rfl
  | ⟨2, _⟩ => rfl

/-- Device `d`'s partial result, at row `r` of block `p`: its share for token `16 p + r`. -/
theorem accBuf_apply (d : Dev nD) (p r : Fin 16) (o : Fin 256) :
    accBuf m d (ix3 p r o) = share (fun t k => x (ix2 t k)) (fun t => e (ix2 t 0)) (fun d k o => W (ix3 d k o)) d ⟨p.val * 16 + r.val, by omega⟩ o := by
  have h := partial_apply (xstg m d) (istg m d) (w0 m d) (w1 m d) (myWord d) d (myWord_eq d) (fun d k o => W (ix3 d k o))
    (fun k o => by
      rw [w0_apply, block_matrix hg]
      exact congrArg (fun n => W (ix3 n k o)) (Fin.ext (by show d.val * 2 + 0 = 2 * d.val; omega)))
    (fun k o => by
      rw [w1_apply, block_matrix hg]
      exact congrArg (fun n => W (ix3 n k o)) (Fin.ext (by show d.val * 2 + 1 = 2 * d.val + 1; omega))) p r o
  have hx : (fun (t : Fin 256) (k : Fin 128) => xstg m d (ix2 t k)) = fun t k => x (ix2 t k) := by
    funext t k; rw [xstg_apply, (hg d).1]
  have he : (fun t : Fin 256 => istg m d (ix2 t 0)) = fun t => e (ix2 t 0) := by
    funext t; rw [istg_apply, (hg d).2.1]
  rw [hx, he] at h
  exact h

omit hg in
/-- A sum over the devices is device `c`'s term plus its fifteen peers'. -/
theorem sum_peers (c : Dev nD) (f : Dev nD → EReal) : f c + ∑ k : Fin 15, f (peer c k) = ∑ d : Dev nD, f d := by
  classical
  rw [← Finset.add_sum_erase Finset.univ f (Finset.mem_univ c)]
  refine congrArg (f c + ·) (Finset.sum_bij (fun k _ => peer c k) ?_ ?_ ?_ fun _ _ => rfl)
  · exact fun k _ => Finset.mem_erase.2 ⟨peer_ne c k, Finset.mem_univ _⟩
  · exact fun _ _ _ _ h => peer_inj c h
  · intro d hd
    obtain ⟨k, hk⟩ := peer_surj c d (Finset.ne_of_mem_erase hd)
    exact ⟨k, Finset.mem_univ k, hk⟩

/-- Device `c`'s result block, at row `r`: the specification at token `16 c + r`. -/
theorem outAt_apply (c : Dev nD) (r : Fin 16) (o : Fin 256) :
    outAt m c (ix2 r o) = specOf x e W ⟨c.val * 16 + r.val, by have := c.isLt; change c.val < 16 at this; omega⟩ o := by
  unfold outAt
  rw [total_apply]
  have hown : View.ld (accBuf m c) (Rect.unit (s := S16x16x256) ![c.val, 0, 0] S1x16x256.size (acc_inb c)) (ix3 0 r o) = accBuf m c (ix3 c r o) := by
    refine congrArg (accBuf m c) (funext fun a => Fin.ext ?_)
    match a with
    | ⟨0, _⟩ => rfl
    | ⟨1, _⟩ => exact from_zero r.val
    | ⟨2, _⟩ => exact from_zero o.val
  have harr : ∀ k : Fin 15, commBuf m c (ix3 k r o) = accBuf m (peer c k) (ix3 c r o) := by
    intro k
    refine congrArg (accBuf m (peer c k)) (funext fun a => Fin.ext ?_)
    match a with
    | ⟨0, _⟩ => rfl
    | ⟨1, _⟩ => rfl
    | ⟨2, _⟩ => rfl
  rw [hown, Finset.sum_congr rfl fun k _ => harr k, sum_peers c fun d => accBuf m d (ix3 c r o),
    Finset.sum_congr rfl fun d _ => accBuf_apply hg d c r o]
  exact sum_share _ _ _ _ _

end

/-! ## The result arrays -/

/-- The result array of device `c` ends as the block it computed. -/
theorem finalA_out (c : Dev nD) : finalA m ρ c (3 : Fin 4) = outAt m c := by
  refine (dats m ρ 0 c).arrAt_eq_of_after_last (3 : Fin 4) t0_0 (show win0_3.WholeAt t0_0 by decide +kernel) _ fun j => ?_
  refine congrArg (outAt m c) (funext fun a => ?_)
  exact Fin.ext rfl

/-- From devices holding the pieces of the reference's arguments, every run of the kernel ends with device `c` holding row
    block `c` of the reference's result, and every run of the reference with that result; no argument changes. -/
theorem agree : Cert.algebraic_KernelIdeal_ReferenceIdeal (hKernelIdeal := Cert.KernelIdeal.Gen.facts) (hReferenceIdeal := Cert.ReferenceIdeal.Gen.facts) := by
  intro m ρ m' ρ' _ hargs
  let x : FVec Ideal S256x128 .f32 := m' (((0 : Dev Cert.ReferenceIdeal.nD).tc : Thread Cert.ReferenceIdeal.nD Cert.ReferenceIdeal.τ).loc Cert.ReferenceIdeal.main_arg0)
  let e : IVec S256x1 32 := m' (((0 : Dev Cert.ReferenceIdeal.nD).tc : Thread Cert.ReferenceIdeal.nD Cert.ReferenceIdeal.τ).loc Cert.ReferenceIdeal.main_arg2)
  let W : FVec Ideal ⟨3, ![32, 128, 256]⟩ .f32 := m' (((0 : Dev Cert.ReferenceIdeal.nD).tc : Thread Cert.ReferenceIdeal.nD Cert.ReferenceIdeal.τ).loc Cert.ReferenceIdeal.main_arg3)
  have hg : Given m x e W := fun c => ⟨(hargs c).1, (hargs c).2.2.1, (hargs c).2.2.2⟩
  refine ⟨refVal x e W, (θ_run Cert.KernelIdeal.defs _ _).mono (fun r h c => ⟨?_, args_kept m ρ h.1 c⟩) (run_main m ρ),
    (θ_run Cert.ReferenceIdeal.defs _ _).mono (fun _ h => h 0) (Cert.ReferenceIdeal.Value.run (F := Ideal) m' ρ')⟩
  refine ((h.1 c).1 (3 : Fin 4)).trans ((finalA_out m ρ c).trans (funext fun i => ?_))
  rw [eq_ix2 i, outAt_apply hg c (i 0) (i 1)]
  refine (refVal_apply x e W _ _).symm.trans (congrArg (refVal x e W) (funext fun a => Fin.ext ?_))
  match a with
  | ⟨0, _⟩ => rfl
  | ⟨1, _⟩ => rfl

end Cert.Routed

end
-- ==== Proof.lean ====
/-
# The certificate

The kernel and the reference end with their arguments unchanged and all semaphores at zero, and the kernel's sixteen
result arrays are the row blocks of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Result
public import Idealize.ShloMosaic.Adequacy
public import Idealize.ShloMosaic.Init

@[expose] public section

noncomputable section

namespace Cert.Proof

open Idealize.ShloMosaic Idealize.SL.Sem Cert.Kernel

/-- All five claims. -/
theorem claim : Cert.Claim := ⟨Cert.Kernel.Gen.facts, Cert.KernelIdeal.Gen.facts, Cert.ReferenceIdeal.Gen.facts, by
  exact ⟨Cert.Exchange.frame_kernel, Cert.Exchange.frame_ideal, Cert.Exchange.frame_reference, trivial, Cert.Routed.agree⟩⟩

end Cert.Proof

end
